-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S1 : Shape := ⟨1, ![1]⟩
abbrev S128x2048 : Shape := ⟨2, ![128, 2048]⟩
abbrev S128x4096 : Shape := ⟨2, ![128, 4096]⟩
abbrev S32 : Shape := ⟨1, ![32]⟩
abbrev S_ : Shape := ⟨0, ![]⟩
abbrev S128x128 : Shape := ⟨2, ![128, 128]⟩
abbrev S2048x2048 : Shape := ⟨2, ![2048, 2048]⟩

abbrev nBuf : Space → Nat
  | .hbm => 5
  | .vmem => 6
  | .smem => 2
  | _ => 0

abbrev bufTy : (tb : Table) → Fin (tcTables nBuf tb) → BufTy
  | .hbm, ⟨0, _⟩ => ⟨S4096x128, .fp8e4m3⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S128x2048, .f32⟩
  | .local _ .vmem, ⟨0, _⟩ => ⟨S4096x128, .fp8e4m3⟩
  | .local _ .vmem, ⟨1, _⟩ => ⟨S128x2048, .f32⟩
  | .local _ .vmem, ⟨2, _⟩ => ⟨S4096x128, .fp8e4m3⟩
  | .local _ .vmem, ⟨3, _⟩ => ⟨S128x4096, .fp8e4m3⟩
  | .local _ .vmem, ⟨4, _⟩ => ⟨S4096x2048, .f32⟩
  | .local _ .vmem, ⟨5, _⟩ => ⟨S4096x2048, .fp8e4m3⟩
  | .local _ .smem, ⟨0, _⟩ => ⟨S1, .f32⟩
  | .local _ .smem, ⟨1, _⟩ => ⟨S1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3 : BitVec 32 := 0#32
  let v11 : BitVec 1 := Scalar.cmpi .ne v2 c0_i32_3
  let v12 : BitVec 32 := Scalar.extui v11
  let c0_i32_4 : BitVec 32 := 0#32
  let v13 : BitVec 1 := Scalar.cmpi .ne v12 c0_i32_4
  v13

def k0_dev1 : Nat :=
  let c0_i32_625 : BitVec 32 := 0#32
  let c0_i32_623 : BitVec 32 := 0#32
  let c1_i32_624 : BitVec 32 := 1#32
  let v757 : BitVec 32 := Scalar.muli c0_i32_623 c1_i32_624
  let v758 : BitVec 32 := Scalar.addi c0_i32_625 v757
  v758.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v14 : BitVec 1 := Scalar.cmpi .ne v2 c1_i32_5
  let v15 : BitVec 32 := Scalar.extui v14
  let c0_i32_6 : BitVec 32 := 0#32
  let v16 : BitVec 1 := Scalar.cmpi .ne v15 c0_i32_6
  v16

def k0_dev2 : Nat :=
  let c0_i32_625 : BitVec 32 := 0#32
  let c1_i32_623 : BitVec 32 := 1#32
  let c1_i32_624 : BitVec 32 := 1#32
  let v757 : BitVec 32 := Scalar.muli c1_i32_623 c1_i32_624
  let v758 : BitVec 32 := Scalar.addi c0_i32_625 v757
  v758.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 1 := Scalar.cmpi .ne v2 c2_i32
  let v18 : BitVec 32 := Scalar.extui v17
  let c0_i32_7 : BitVec 32 := 0#32
  let v19 : BitVec 1 := Scalar.cmpi .ne v18 c0_i32_7
  v19

def k0_dev3 : Nat :=
  let c0_i32_625 : BitVec 32 := 0#32
  let c2_i32_623 : BitVec 32 := 2#32
  let c1_i32_624 : BitVec 32 := 1#32
  let v757 : BitVec 32 := Scalar.muli c2_i32_623 c1_i32_624
  let v758 : BitVec 32 := Scalar.addi c0_i32_625 v757
  v758.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v20 : BitVec 1 := Scalar.cmpi .ne v2 c3_i32
  let v21 : BitVec 32 := Scalar.extui v20
  let c0_i32_8 : BitVec 32 := 0#32
  let v22 : BitVec 1 := Scalar.cmpi .ne v21 c0_i32_8
  v22

def k0_dev4 : Nat :=
  let c0_i32_625 : BitVec 32 := 0#32
  let c3_i32_623 : BitVec 32 := 3#32
  let c1_i32_624 : BitVec 32 := 1#32
  let v757 : BitVec 32 := Scalar.muli c3_i32_623 c1_i32_624
  let v758 : BitVec 32 := Scalar.addi c0_i32_625 v757
  v758.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v23 : BitVec 1 := Scalar.cmpi .ne v2 c4_i32
  let v24 : BitVec 32 := Scalar.extui v23
  let c0_i32_9 : BitVec 32 := 0#32
  let v25 : BitVec 1 := Scalar.cmpi .ne v24 c0_i32_9
  v25

def k0_dev5 : Nat :=
  let c0_i32_625 : BitVec 32 := 0#32
  let c4_i32_623 : BitVec 32 := 4#32
  let c1_i32_624 : BitVec 32 := 1#32
  let v757 : BitVec 32 := Scalar.muli c4_i32_623 c1_i32_624
  let v758 : BitVec 32 := Scalar.addi c0_i32_625 v757
  v758.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v26 : BitVec 1 := Scalar.cmpi .ne v2 c5_i32
  let v27 : BitVec 32 := Scalar.extui v26
  let c0_i32_10 : BitVec 32 := 0#32
  let v28 : BitVec 1 := Scalar.cmpi .ne v27 c0_i32_10
  v28

def k0_dev6 : Nat :=
  let c0_i32_625 : BitVec 32 := 0#32
  let c5_i32_623 : BitVec 32 := 5#32
  let c1_i32_624 : BitVec 32 := 1#32
  let v757 : BitVec 32 := Scalar.muli c5_i32_623 c1_i32_624
  let v758 : BitVec 32 := Scalar.addi c0_i32_625 v757
  v758.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v29 : BitVec 1 := Scalar.cmpi .ne v2 c6_i32
  let v30 : BitVec 32 := Scalar.extui v29
  let c0_i32_11 : BitVec 32 := 0#32
  let v31 : BitVec 1 := Scalar.cmpi .ne v30 c0_i32_11
  v31

def k0_dev7 : Nat :=
  let c0_i32_625 : BitVec 32 := 0#32
  let c6_i32_623 : BitVec 32 := 6#32
  let c1_i32_624 : BitVec 32 := 1#32
  let v757 : BitVec 32 := Scalar.muli c6_i32_623 c1_i32_624
  let v758 : BitVec 32 := Scalar.addi c0_i32_625 v757
  v758.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v32 : BitVec 1 := Scalar.cmpi .ne v2 c7_i32
  let v33 : BitVec 32 := Scalar.extui v32
  let c0_i32_12 : BitVec 32 := 0#32
  let v34 : BitVec 1 := Scalar.cmpi .ne v33 c0_i32_12
  v34

def k0_dev8 : Nat :=
  let c0_i32_625 : BitVec 32 := 0#32
  let c7_i32_623 : BitVec 32 := 7#32
  let c1_i32_624 : BitVec 32 := 1#32
  let v757 : BitVec 32 := Scalar.muli c7_i32_623 c1_i32_624
  let v758 : BitVec 32 := Scalar.addi c0_i32_625 v757
  v758.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v35 : BitVec 1 := Scalar.cmpi .ne v2 c8_i32
  let v36 : BitVec 32 := Scalar.extui v35
  let c0_i32_13 : BitVec 32 := 0#32
  let v37 : BitVec 1 := Scalar.cmpi .ne v36 c0_i32_13
  v37

def k0_dev9 : Nat :=
  let c0_i32_625 : BitVec 32 := 0#32
  let c8_i32_623 : BitVec 32 := 8#32
  let c1_i32_624 : BitVec 32 := 1#32
  let v757 : BitVec 32 := Scalar.muli c8_i32_623 c1_i32_624
  let v758 : BitVec 32 := Scalar.addi c0_i32_625 v757
  v758.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v38 : BitVec 1 := Scalar.cmpi .ne v2 c9_i32
  let v39 : BitVec 32 := Scalar.extui v38
  let c0_i32_14 : BitVec 32 := 0#32
  let v40 : BitVec 1 := Scalar.cmpi .ne v39 c0_i32_14
  v40

def k0_dev10 : Nat :=
  let c0_i32_625 : BitVec 32 := 0#32
  let c9_i32_623 : BitVec 32 := 9#32
  let c1_i32_624 : BitVec 32 := 1#32
  let v757 : BitVec 32 := Scalar.muli c9_i32_623 c1_i32_624
  let v758 : BitVec 32 := Scalar.addi c0_i32_625 v757
  v758.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v41 : BitVec 1 := Scalar.cmpi .ne v2 c10_i32
  let v42 : BitVec 32 := Scalar.extui v41
  let c0_i32_15 : BitVec 32 := 0#32
  let v43 : BitVec 1 := Scalar.cmpi .ne v42 c0_i32_15
  v43

def k0_dev11 : Nat :=
  let c0_i32_625 : BitVec 32 := 0#32
  let c10_i32_623 : BitVec 32 := 10#32
  let c1_i32_624 : BitVec 32 := 1#32
  let v757 : BitVec 32 := Scalar.muli c10_i32_623 c1_i32_624
  let v758 : BitVec 32 := Scalar.addi c0_i32_625 v757
  v758.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 1 := Scalar.cmpi .ne v2 c11_i32
  let v45 : BitVec 32 := Scalar.extui v44
  let c0_i32_16 : BitVec 32 := 0#32
  let v46 : BitVec 1 := Scalar.cmpi .ne v45 c0_i32_16
  v46

def k0_dev12 : Nat :=
  let c0_i32_625 : BitVec 32 := 0#32
  let c11_i32_623 : BitVec 32 := 11#32
  let c1_i32_624 : BitVec 32 := 1#32
  let v757 : BitVec 32 := Scalar.muli c11_i32_623 c1_i32_624
  let v758 : BitVec 32 := Scalar.addi c0_i32_625 v757
  v758.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v47 : BitVec 1 := Scalar.cmpi .ne v2 c12_i32
  let v48 : BitVec 32 := Scalar.extui v47
  let c0_i32_17 : BitVec 32 := 0#32
  let v49 : BitVec 1 := Scalar.cmpi .ne v48 c0_i32_17
  v49

def k0_dev13 : Nat :=
  let c0_i32_625 : BitVec 32 := 0#32
  let c12_i32_623 : BitVec 32 := 12#32
  let c1_i32_624 : BitVec 32 := 1#32
  let v757 : BitVec 32 := Scalar.muli c12_i32_623 c1_i32_624
  let v758 : BitVec 32 := Scalar.addi c0_i32_625 v757
  v758.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v50 : BitVec 1 := Scalar.cmpi .ne v2 c13_i32
  let v51 : BitVec 32 := Scalar.extui v50
  let c0_i32_18 : BitVec 32 := 0#32
  let v52 : BitVec 1 := Scalar.cmpi .ne v51 c0_i32_18
  v52

def k0_dev14 : Nat :=
  let c0_i32_625 : BitVec 32 := 0#32
  let c13_i32_623 : BitVec 32 := 13#32
  let c1_i32_624 : BitVec 32 := 1#32
  let v757 : BitVec 32 := Scalar.muli c13_i32_623 c1_i32_624
  let v758 : BitVec 32 := Scalar.addi c0_i32_625 v757
  v758.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v53 : BitVec 1 := Scalar.cmpi .ne v2 c14_i32
  let v54 : BitVec 32 := Scalar.extui v53
  let c0_i32_19 : BitVec 32 := 0#32
  let v55 : BitVec 1 := Scalar.cmpi .ne v54 c0_i32_19
  v55

def k0_dev15 : Nat :=
  let c0_i32_625 : BitVec 32 := 0#32
  let c14_i32_623 : BitVec 32 := 14#32
  let c1_i32_624 : BitVec 32 := 1#32
  let v757 : BitVec 32 := Scalar.muli c14_i32_623 c1_i32_624
  let v758 : BitVec 32 := Scalar.addi c0_i32_625 v757
  v758.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v56 : BitVec 1 := Scalar.cmpi .ne v2 c15_i32
  let v57 : BitVec 32 := Scalar.extui v56
  let c0_i32_20 : BitVec 32 := 0#32
  let v58 : BitVec 1 := Scalar.cmpi .ne v57 c0_i32_20
  v58

def k0_dev16 : Nat :=
  let c0_i32_625 : BitVec 32 := 0#32
  let c15_i32_623 : BitVec 32 := 15#32
  let c1_i32_624 : BitVec 32 := 1#32
  let v757 : BitVec 32 := Scalar.muli c15_i32_623 c1_i32_624
  let v758 : BitVec 32 := Scalar.addi c0_i32_625 v757
  v758.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v59 : BitVec 1 := Scalar.cmpi .ne v2 c16_i32
  let v60 : BitVec 32 := Scalar.extui v59
  let c0_i32_21 : BitVec 32 := 0#32
  let v61 : BitVec 1 := Scalar.cmpi .ne v60 c0_i32_21
  v61

def k0_dev17 : Nat :=
  let c0_i32_625 : BitVec 32 := 0#32
  let c16_i32_623 : BitVec 32 := 16#32
  let c1_i32_624 : BitVec 32 := 1#32
  let v757 : BitVec 32 := Scalar.muli c16_i32_623 c1_i32_624
  let v758 : BitVec 32 := Scalar.addi c0_i32_625 v757
  v758.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v62 : BitVec 1 := Scalar.cmpi .ne v2 c17_i32
  let v63 : BitVec 32 := Scalar.extui v62
  let c0_i32_22 : BitVec 32 := 0#32
  let v64 : BitVec 1 := Scalar.cmpi .ne v63 c0_i32_22
  v64

def k0_dev18 : Nat :=
  let c0_i32_625 : BitVec 32 := 0#32
  let c17_i32_623 : BitVec 32 := 17#32
  let c1_i32_624 : BitVec 32 := 1#32
  let v757 : BitVec 32 := Scalar.muli c17_i32_623 c1_i32_624
  let v758 : BitVec 32 := Scalar.addi c0_i32_625 v757
  v758.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v65 : BitVec 1 := Scalar.cmpi .ne v2 c18_i32
  let v66 : BitVec 32 := Scalar.extui v65
  let c0_i32_23 : BitVec 32 := 0#32
  let v67 : BitVec 1 := Scalar.cmpi .ne v66 c0_i32_23
  v67

def k0_dev19 : Nat :=
  let c0_i32_625 : BitVec 32 := 0#32
  let c18_i32_623 : BitVec 32 := 18#32
  let c1_i32_624 : BitVec 32 := 1#32
  let v757 : BitVec 32 := Scalar.muli c18_i32_623 c1_i32_624
  let v758 : BitVec 32 := Scalar.addi c0_i32_625 v757
  v758.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v68 : BitVec 1 := Scalar.cmpi .ne v2 c19_i32
  let v69 : BitVec 32 := Scalar.extui v68
  let c0_i32_24 : BitVec 32 := 0#32
  let v70 : BitVec 1 := Scalar.cmpi .ne v69 c0_i32_24
  v70

def k0_dev20 : Nat :=
  let c0_i32_625 : BitVec 32 := 0#32
  let c19_i32_623 : BitVec 32 := 19#32
  let c1_i32_624 : BitVec 32 := 1#32
  let v757 : BitVec 32 := Scalar.muli c19_i32_623 c1_i32_624
  let v758 : BitVec 32 := Scalar.addi c0_i32_625 v757
  v758.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v71 : BitVec 1 := Scalar.cmpi .ne v2 c20_i32
  let v72 : BitVec 32 := Scalar.extui v71
  let c0_i32_25 : BitVec 32 := 0#32
  let v73 : BitVec 1 := Scalar.cmpi .ne v72 c0_i32_25
  v73

def k0_dev21 : Nat :=
  let c0_i32_625 : BitVec 32 := 0#32
  let c20_i32_623 : BitVec 32 := 20#32
  let c1_i32_624 : BitVec 32 := 1#32
  let v757 : BitVec 32 := Scalar.muli c20_i32_623 c1_i32_624
  let v758 : BitVec 32 := Scalar.addi c0_i32_625 v757
  v758.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v74 : BitVec 1 := Scalar.cmpi .ne v2 c21_i32
  let v75 : BitVec 32 := Scalar.extui v74
  let c0_i32_26 : BitVec 32 := 0#32
  let v76 : BitVec 1 := Scalar.cmpi .ne v75 c0_i32_26
  v76

def k0_dev22 : Nat :=
  let c0_i32_625 : BitVec 32 := 0#32
  let c21_i32_623 : BitVec 32 := 21#32
  let c1_i32_624 : BitVec 32 := 1#32
  let v757 : BitVec 32 := Scalar.muli c21_i32_623 c1_i32_624
  let v758 : BitVec 32 := Scalar.addi c0_i32_625 v757
  v758.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v77 : BitVec 1 := Scalar.cmpi .ne v2 c22_i32
  let v78 : BitVec 32 := Scalar.extui v77
  let c0_i32_27 : BitVec 32 := 0#32
  let v79 : BitVec 1 := Scalar.cmpi .ne v78 c0_i32_27
  v79

def k0_dev23 : Nat :=
  let c0_i32_625 : BitVec 32 := 0#32
  let c22_i32_623 : BitVec 32 := 22#32
  let c1_i32_624 : BitVec 32 := 1#32
  let v757 : BitVec 32 := Scalar.muli c22_i32_623 c1_i32_624
  let v758 : BitVec 32 := Scalar.addi c0_i32_625 v757
  v758.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v80 : BitVec 1 := Scalar.cmpi .ne v2 c23_i32
  let v81 : BitVec 32 := Scalar.extui v80
  let c0_i32_28 : BitVec 32 := 0#32
  let v82 : BitVec 1 := Scalar.cmpi .ne v81 c0_i32_28
  v82

def k0_dev24 : Nat :=
  let c0_i32_625 : BitVec 32 := 0#32
  let c23_i32_623 : BitVec 32 := 23#32
  let c1_i32_624 : BitVec 32 := 1#32
  let v757 : BitVec 32 := Scalar.muli c23_i32_623 c1_i32_624
  let v758 : BitVec 32 := Scalar.addi c0_i32_625 v757
  v758.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v83 : BitVec 1 := Scalar.cmpi .ne v2 c24_i32
  let v84 : BitVec 32 := Scalar.extui v83
  let c0_i32_29 : BitVec 32 := 0#32
  let v85 : BitVec 1 := Scalar.cmpi .ne v84 c0_i32_29
  v85

def k0_dev25 : Nat :=
  let c0_i32_625 : BitVec 32 := 0#32
  let c24_i32_623 : BitVec 32 := 24#32
  let c1_i32_624 : BitVec 32 := 1#32
  let v757 : BitVec 32 := Scalar.muli c24_i32_623 c1_i32_624
  let v758 : BitVec 32 := Scalar.addi c0_i32_625 v757
  v758.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v86 : BitVec 1 := Scalar.cmpi .ne v2 c25_i32
  let v87 : BitVec 32 := Scalar.extui v86
  let c0_i32_30 : BitVec 32 := 0#32
  let v88 : BitVec 1 := Scalar.cmpi .ne v87 c0_i32_30
  v88

def k0_dev26 : Nat :=
  let c0_i32_625 : BitVec 32 := 0#32
  let c25_i32_623 : BitVec 32 := 25#32
  let c1_i32_624 : BitVec 32 := 1#32
  let v757 : BitVec 32 := Scalar.muli c25_i32_623 c1_i32_624
  let v758 : BitVec 32 := Scalar.addi c0_i32_625 v757
  v758.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v89 : BitVec 1 := Scalar.cmpi .ne v2 c26_i32
  let v90 : BitVec 32 := Scalar.extui v89
  let c0_i32_31 : BitVec 32 := 0#32
  let v91 : BitVec 1 := Scalar.cmpi .ne v90 c0_i32_31
  v91

def k0_dev27 : Nat :=
  let c0_i32_625 : BitVec 32 := 0#32
  let c26_i32_623 : BitVec 32 := 26#32
  let c1_i32_624 : BitVec 32 := 1#32
  let v757 : BitVec 32 := Scalar.muli c26_i32_623 c1_i32_624
  let v758 : BitVec 32 := Scalar.addi c0_i32_625 v757
  v758.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v92 : BitVec 1 := Scalar.cmpi .ne v2 c27_i32
  let v93 : BitVec 32 := Scalar.extui v92
  let c0_i32_32 : BitVec 32 := 0#32
  let v94 : BitVec 1 := Scalar.cmpi .ne v93 c0_i32_32
  v94

def k0_dev28 : Nat :=
  let c0_i32_625 : BitVec 32 := 0#32
  let c27_i32_623 : BitVec 32 := 27#32
  let c1_i32_624 : BitVec 32 := 1#32
  let v757 : BitVec 32 := Scalar.muli c27_i32_623 c1_i32_624
  let v758 : BitVec 32 := Scalar.addi c0_i32_625 v757
  v758.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v95 : BitVec 1 := Scalar.cmpi .ne v2 c28_i32
  let v96 : BitVec 32 := Scalar.extui v95
  let c0_i32_33 : BitVec 32 := 0#32
  let v97 : BitVec 1 := Scalar.cmpi .ne v96 c0_i32_33
  v97

def k0_dev29 : Nat :=
  let c0_i32_625 : BitVec 32 := 0#32
  let c28_i32_623 : BitVec 32 := 28#32
  let c1_i32_624 : BitVec 32 := 1#32
  let v757 : BitVec 32 := Scalar.muli c28_i32_623 c1_i32_624
  let v758 : BitVec 32 := Scalar.addi c0_i32_625 v757
  v758.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v98 : BitVec 1 := Scalar.cmpi .ne v2 c29_i32
  let v99 : BitVec 32 := Scalar.extui v98
  let c0_i32_34 : BitVec 32 := 0#32
  let v100 : BitVec 1 := Scalar.cmpi .ne v99 c0_i32_34
  v100

def k0_dev30 : Nat :=
  let c0_i32_625 : BitVec 32 := 0#32
  let c29_i32_623 : BitVec 32 := 29#32
  let c1_i32_624 : BitVec 32 := 1#32
  let v757 : BitVec 32 := Scalar.muli c29_i32_623 c1_i32_624
  let v758 : BitVec 32 := Scalar.addi c0_i32_625 v757
  v758.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v101 : BitVec 1 := Scalar.cmpi .ne v2 c30_i32
  let v102 : BitVec 32 := Scalar.extui v101
  let c0_i32_35 : BitVec 32 := 0#32
  let v103 : BitVec 1 := Scalar.cmpi .ne v102 c0_i32_35
  v103

def k0_dev31 : Nat :=
  let c0_i32_625 : BitVec 32 := 0#32
  let c30_i32_623 : BitVec 32 := 30#32
  let c1_i32_624 : BitVec 32 := 1#32
  let v757 : BitVec 32 := Scalar.muli c30_i32_623 c1_i32_624
  let v758 : BitVec 32 := Scalar.addi c0_i32_625 v757
  v758.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v104 : BitVec 1 := Scalar.cmpi .ne v2 c31_i32
  let v105 : BitVec 32 := Scalar.extui v104
  let c0_i32_36 : BitVec 32 := 0#32
  let v106 : BitVec 1 := Scalar.cmpi .ne v105 c0_i32_36
  v106

def k0_dev32 : Nat :=
  let c0_i32_625 : BitVec 32 := 0#32
  let c31_i32_623 : BitVec 32 := 31#32
  let c1_i32_624 : BitVec 32 := 1#32
  let v757 : BitVec 32 := Scalar.muli c31_i32_623 c1_i32_624
  let v758 : BitVec 32 := Scalar.addi c0_i32_625 v757
  v758.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 2 → Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_38 : BitVec 32 := 128#32
  let v108 : BitVec 32 := Scalar.muli v2 c128_i32_38
  ![0, v108.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v107 : BitVec 32 := Scalar.muli v2 c128_i32
  let c0_i32_40 : BitVec 32 := 0#32
  ![v107.toNat, 0]
def k0_off4 (d0 : Dev nD) (c1_i32_41 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v113 : BitVec 32 := Scalar.addi v2 c1_i32_41
  let c32_i32_42 : BitVec 32 := 32#32
  let v114 : BitVec 32 := Scalar.remsi v113 c32_i32_42
  let c128_i32_43 : BitVec 32 := 128#32
  let v115 : BitVec 32 := Scalar.muli v114 c128_i32_43
  let c0_i32_49 : BitVec 32 := 0#32
  ![v115.toNat, 0]
def k0_dev33 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_41 : BitVec 32 := 1#32
  let v113 : BitVec 32 := Scalar.addi v2 c1_i32_41
  let c32_i32_42 : BitVec 32 := 32#32
  let v114 : BitVec 32 := Scalar.remsi v113 c32_i32_42
  let c1_i32_46 : BitVec 32 := 1#32
  let v117 : BitVec 32 := Scalar.muli v114 c1_i32_46
  let v118 : BitVec 32 := Scalar.addi c0_i32_47 v117
  v118.toNat
def k0_dev34 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_50 : BitVec 32 := 2#32
  let v125 : BitVec 32 := Scalar.addi v2 c2_i32_50
  let c32_i32_51 : BitVec 32 := 32#32
  let v126 : BitVec 32 := Scalar.remsi v125 c32_i32_51
  let c1_i32_55 : BitVec 32 := 1#32
  let v129 : BitVec 32 := Scalar.muli v126 c1_i32_55
  let v130 : BitVec 32 := Scalar.addi c0_i32_56 v129
  v130.toNat
def k0_dev35 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_59 : BitVec 32 := 3#32
  let v137 : BitVec 32 := Scalar.addi v2 c3_i32_59
  let c32_i32_60 : BitVec 32 := 32#32
  let v138 : BitVec 32 := Scalar.remsi v137 c32_i32_60
  let c1_i32_64 : BitVec 32 := 1#32
  let v141 : BitVec 32 := Scalar.muli v138 c1_i32_64
  let v142 : BitVec 32 := Scalar.addi c0_i32_65 v141
  v142.toNat
def k0_dev36 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_68 : BitVec 32 := 4#32
  let v149 : BitVec 32 := Scalar.addi v2 c4_i32_68
  let c32_i32_69 : BitVec 32 := 32#32
  let v150 : BitVec 32 := Scalar.remsi v149 c32_i32_69
  let c1_i32_73 : BitVec 32 := 1#32
  let v153 : BitVec 32 := Scalar.muli v150 c1_i32_73
  let v154 : BitVec 32 := Scalar.addi c0_i32_74 v153
  v154.toNat
def k0_dev37 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_77 : BitVec 32 := 5#32
  let v161 : BitVec 32 := Scalar.addi v2 c5_i32_77
  let c32_i32_78 : BitVec 32 := 32#32
  let v162 : BitVec 32 := Scalar.remsi v161 c32_i32_78
  let c1_i32_82 : BitVec 32 := 1#32
  let v165 : BitVec 32 := Scalar.muli v162 c1_i32_82
  let v166 : BitVec 32 := Scalar.addi c0_i32_83 v165
  v166.toNat
def k0_dev38 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_86 : BitVec 32 := 6#32
  let v173 : BitVec 32 := Scalar.addi v2 c6_i32_86
  let c32_i32_87 : BitVec 32 := 32#32
  let v174 : BitVec 32 := Scalar.remsi v173 c32_i32_87
  let c1_i32_91 : BitVec 32 := 1#32
  let v177 : BitVec 32 := Scalar.muli v174 c1_i32_91
  let v178 : BitVec 32 := Scalar.addi c0_i32_92 v177
  v178.toNat
def k0_dev39 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_95 : BitVec 32 := 7#32
  let v185 : BitVec 32 := Scalar.addi v2 c7_i32_95
  let c32_i32_96 : BitVec 32 := 32#32
  let v186 : BitVec 32 := Scalar.remsi v185 c32_i32_96
  let c1_i32_100 : BitVec 32 := 1#32
  let v189 : BitVec 32 := Scalar.muli v186 c1_i32_100
  let v190 : BitVec 32 := Scalar.addi c0_i32_101 v189
  v190.toNat
def k0_dev40 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_104 : BitVec 32 := 8#32
  let v197 : BitVec 32 := Scalar.addi v2 c8_i32_104
  let c32_i32_105 : BitVec 32 := 32#32
  let v198 : BitVec 32 := Scalar.remsi v197 c32_i32_105
  let c1_i32_109 : BitVec 32 := 1#32
  let v201 : BitVec 32 := Scalar.muli v198 c1_i32_109
  let v202 : BitVec 32 := Scalar.addi c0_i32_110 v201
  v202.toNat
def k0_dev41 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_113 : BitVec 32 := 9#32
  let v209 : BitVec 32 := Scalar.addi v2 c9_i32_113
  let c32_i32_114 : BitVec 32 := 32#32
  let v210 : BitVec 32 := Scalar.remsi v209 c32_i32_114
  let c1_i32_118 : BitVec 32 := 1#32
  let v213 : BitVec 32 := Scalar.muli v210 c1_i32_118
  let v214 : BitVec 32 := Scalar.addi c0_i32_119 v213
  v214.toNat
def k0_dev42 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_122 : BitVec 32 := 10#32
  let v221 : BitVec 32 := Scalar.addi v2 c10_i32_122
  let c32_i32_123 : BitVec 32 := 32#32
  let v222 : BitVec 32 := Scalar.remsi v221 c32_i32_123
  let c1_i32_127 : BitVec 32 := 1#32
  let v225 : BitVec 32 := Scalar.muli v222 c1_i32_127
  let v226 : BitVec 32 := Scalar.addi c0_i32_128 v225
  v226.toNat
def k0_dev43 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_131 : BitVec 32 := 11#32
  let v233 : BitVec 32 := Scalar.addi v2 c11_i32_131
  let c32_i32_132 : BitVec 32 := 32#32
  let v234 : BitVec 32 := Scalar.remsi v233 c32_i32_132
  let c1_i32_136 : BitVec 32 := 1#32
  let v237 : BitVec 32 := Scalar.muli v234 c1_i32_136
  let v238 : BitVec 32 := Scalar.addi c0_i32_137 v237
  v238.toNat
def k0_dev44 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_140 : BitVec 32 := 12#32
  let v245 : BitVec 32 := Scalar.addi v2 c12_i32_140
  let c32_i32_141 : BitVec 32 := 32#32
  let v246 : BitVec 32 := Scalar.remsi v245 c32_i32_141
  let c1_i32_145 : BitVec 32 := 1#32
  let v249 : BitVec 32 := Scalar.muli v246 c1_i32_145
  let v250 : BitVec 32 := Scalar.addi c0_i32_146 v249
  v250.toNat
def k0_dev45 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_149 : BitVec 32 := 13#32
  let v257 : BitVec 32 := Scalar.addi v2 c13_i32_149
  let c32_i32_150 : BitVec 32 := 32#32
  let v258 : BitVec 32 := Scalar.remsi v257 c32_i32_150
  let c1_i32_154 : BitVec 32 := 1#32
  let v261 : BitVec 32 := Scalar.muli v258 c1_i32_154
  let v262 : BitVec 32 := Scalar.addi c0_i32_155 v261
  v262.toNat
def k0_dev46 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_158 : BitVec 32 := 14#32
  let v269 : BitVec 32 := Scalar.addi v2 c14_i32_158
  let c32_i32_159 : BitVec 32 := 32#32
  let v270 : BitVec 32 := Scalar.remsi v269 c32_i32_159
  let c1_i32_163 : BitVec 32 := 1#32
  let v273 : BitVec 32 := Scalar.muli v270 c1_i32_163
  let v274 : BitVec 32 := Scalar.addi c0_i32_164 v273
  v274.toNat
def k0_dev47 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_167 : BitVec 32 := 15#32
  let v281 : BitVec 32 := Scalar.addi v2 c15_i32_167
  let c32_i32_168 : BitVec 32 := 32#32
  let v282 : BitVec 32 := Scalar.remsi v281 c32_i32_168
  let c1_i32_172 : BitVec 32 := 1#32
  let v285 : BitVec 32 := Scalar.muli v282 c1_i32_172
  let v286 : BitVec 32 := Scalar.addi c0_i32_173 v285
  v286.toNat
def k0_dev48 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_176 : BitVec 32 := 16#32
  let v293 : BitVec 32 := Scalar.addi v2 c16_i32_176
  let c32_i32_177 : BitVec 32 := 32#32
  let v294 : BitVec 32 := Scalar.remsi v293 c32_i32_177
  let c1_i32_181 : BitVec 32 := 1#32
  let v297 : BitVec 32 := Scalar.muli v294 c1_i32_181
  let v298 : BitVec 32 := Scalar.addi c0_i32_182 v297
  v298.toNat
def k0_dev49 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_185 : BitVec 32 := 17#32
  let v305 : BitVec 32 := Scalar.addi v2 c17_i32_185
  let c32_i32_186 : BitVec 32 := 32#32
  let v306 : BitVec 32 := Scalar.remsi v305 c32_i32_186
  let c1_i32_190 : BitVec 32 := 1#32
  let v309 : BitVec 32 := Scalar.muli v306 c1_i32_190
  let v310 : BitVec 32 := Scalar.addi c0_i32_191 v309
  v310.toNat
def k0_dev50 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_194 : BitVec 32 := 18#32
  let v317 : BitVec 32 := Scalar.addi v2 c18_i32_194
  let c32_i32_195 : BitVec 32 := 32#32
  let v318 : BitVec 32 := Scalar.remsi v317 c32_i32_195
  let c1_i32_199 : BitVec 32 := 1#32
  let v321 : BitVec 32 := Scalar.muli v318 c1_i32_199
  let v322 : BitVec 32 := Scalar.addi c0_i32_200 v321
  v322.toNat
def k0_dev51 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_203 : BitVec 32 := 19#32
  let v329 : BitVec 32 := Scalar.addi v2 c19_i32_203
  let c32_i32_204 : BitVec 32 := 32#32
  let v330 : BitVec 32 := Scalar.remsi v329 c32_i32_204
  let c1_i32_208 : BitVec 32 := 1#32
  let v333 : BitVec 32 := Scalar.muli v330 c1_i32_208
  let v334 : BitVec 32 := Scalar.addi c0_i32_209 v333
  v334.toNat
def k0_dev52 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_212 : BitVec 32 := 20#32
  let v341 : BitVec 32 := Scalar.addi v2 c20_i32_212
  let c32_i32_213 : BitVec 32 := 32#32
  let v342 : BitVec 32 := Scalar.remsi v341 c32_i32_213
  let c1_i32_217 : BitVec 32 := 1#32
  let v345 : BitVec 32 := Scalar.muli v342 c1_i32_217
  let v346 : BitVec 32 := Scalar.addi c0_i32_218 v345
  v346.toNat
def k0_dev53 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_221 : BitVec 32 := 21#32
  let v353 : BitVec 32 := Scalar.addi v2 c21_i32_221
  let c32_i32_222 : BitVec 32 := 32#32
  let v354 : BitVec 32 := Scalar.remsi v353 c32_i32_222
  let c1_i32_226 : BitVec 32 := 1#32
  let v357 : BitVec 32 := Scalar.muli v354 c1_i32_226
  let v358 : BitVec 32 := Scalar.addi c0_i32_227 v357
  v358.toNat
def k0_dev54 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_230 : BitVec 32 := 22#32
  let v365 : BitVec 32 := Scalar.addi v2 c22_i32_230
  let c32_i32_231 : BitVec 32 := 32#32
  let v366 : BitVec 32 := Scalar.remsi v365 c32_i32_231
  let c1_i32_235 : BitVec 32 := 1#32
  let v369 : BitVec 32 := Scalar.muli v366 c1_i32_235
  let v370 : BitVec 32 := Scalar.addi c0_i32_236 v369
  v370.toNat
def k0_dev55 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_239 : BitVec 32 := 23#32
  let v377 : BitVec 32 := Scalar.addi v2 c23_i32_239
  let c32_i32_240 : BitVec 32 := 32#32
  let v378 : BitVec 32 := Scalar.remsi v377 c32_i32_240
  let c1_i32_244 : BitVec 32 := 1#32
  let v381 : BitVec 32 := Scalar.muli v378 c1_i32_244
  let v382 : BitVec 32 := Scalar.addi c0_i32_245 v381
  v382.toNat
def k0_dev56 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_248 : BitVec 32 := 24#32
  let v389 : BitVec 32 := Scalar.addi v2 c24_i32_248
  let c32_i32_249 : BitVec 32 := 32#32
  let v390 : BitVec 32 := Scalar.remsi v389 c32_i32_249
  let c1_i32_253 : BitVec 32 := 1#32
  let v393 : BitVec 32 := Scalar.muli v390 c1_i32_253
  let v394 : BitVec 32 := Scalar.addi c0_i32_254 v393
  v394.toNat
def k0_dev57 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_257 : BitVec 32 := 25#32
  let v401 : BitVec 32 := Scalar.addi v2 c25_i32_257
  let c32_i32_258 : BitVec 32 := 32#32
  let v402 : BitVec 32 := Scalar.remsi v401 c32_i32_258
  let c1_i32_262 : BitVec 32 := 1#32
  let v405 : BitVec 32 := Scalar.muli v402 c1_i32_262
  let v406 : BitVec 32 := Scalar.addi c0_i32_263 v405
  v406.toNat
def k0_dev58 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_266 : BitVec 32 := 26#32
  let v413 : BitVec 32 := Scalar.addi v2 c26_i32_266
  let c32_i32_267 : BitVec 32 := 32#32
  let v414 : BitVec 32 := Scalar.remsi v413 c32_i32_267
  let c1_i32_271 : BitVec 32 := 1#32
  let v417 : BitVec 32 := Scalar.muli v414 c1_i32_271
  let v418 : BitVec 32 := Scalar.addi c0_i32_272 v417
  v418.toNat
def k0_dev59 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_275 : BitVec 32 := 27#32
  let v425 : BitVec 32 := Scalar.addi v2 c27_i32_275
  let c32_i32_276 : BitVec 32 := 32#32
  let v426 : BitVec 32 := Scalar.remsi v425 c32_i32_276
  let c1_i32_280 : BitVec 32 := 1#32
  let v429 : BitVec 32 := Scalar.muli v426 c1_i32_280
  let v430 : BitVec 32 := Scalar.addi c0_i32_281 v429
  v430.toNat
def k0_dev60 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_284 : BitVec 32 := 28#32
  let v437 : BitVec 32 := Scalar.addi v2 c28_i32_284
  let c32_i32_285 : BitVec 32 := 32#32
  let v438 : BitVec 32 := Scalar.remsi v437 c32_i32_285
  let c1_i32_289 : BitVec 32 := 1#32
  let v441 : BitVec 32 := Scalar.muli v438 c1_i32_289
  let v442 : BitVec 32 := Scalar.addi c0_i32_290 v441
  v442.toNat
def k0_dev61 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_293 : BitVec 32 := 29#32
  let v449 : BitVec 32 := Scalar.addi v2 c29_i32_293
  let c32_i32_294 : BitVec 32 := 32#32
  let v450 : BitVec 32 := Scalar.remsi v449 c32_i32_294
  let c1_i32_298 : BitVec 32 := 1#32
  let v453 : BitVec 32 := Scalar.muli v450 c1_i32_298
  let v454 : BitVec 32 := Scalar.addi c0_i32_299 v453
  v454.toNat
def k0_dev62 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_302 : BitVec 32 := 30#32
  let v461 : BitVec 32 := Scalar.addi v2 c30_i32_302
  let c32_i32_303 : BitVec 32 := 32#32
  let v462 : BitVec 32 := Scalar.remsi v461 c32_i32_303
  let c1_i32_307 : BitVec 32 := 1#32
  let v465 : BitVec 32 := Scalar.muli v462 c1_i32_307
  let v466 : BitVec 32 := Scalar.addi c0_i32_308 v465
  v466.toNat
def k0_dev63 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_311 : BitVec 32 := 31#32
  let v473 : BitVec 32 := Scalar.addi v2 c31_i32_311
  let c32_i32_312 : BitVec 32 := 32#32
  let v474 : BitVec 32 := Scalar.remsi v473 c32_i32_312
  let c1_i32_316 : BitVec 32 := 1#32
  let v477 : BitVec 32 := Scalar.muli v474 c1_i32_316
  let v478 : BitVec 32 := Scalar.addi c0_i32_317 v477
  v478.toNat
abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .f32⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Protocol.lean ====
/-
The all-to-all's protocol: the semaphore cells, who pays what into them, what each payment hands over, and what
every device owes at the launch.

Device `c` holds a column block of `x` (4096×128) and ends with a row block of the product. It hands its row block `i`
of `x` to device `i`, which gathers the 32 blocks side by side. Cells, all of one round:

* the barrier cell of `c`: one unit from every other device `d`, handing over the column block `c` of `d`'s gathering
  buffer (what `c`'s transfer to `d` writes);
* the receive cell `(c, j)`: the credit of the block from device `j`, handing over column block `j` of `c`'s gathering
  buffer holding that block (at `j = c`, the local copy, also the source block of it);
* the send cell `(c, k)`: the credit of the `k`-th transfer, handing its source block back;
* the weight cell of `c`: the copy of the weight matrix.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic
public import Mathlib.Algebra.Order.BigOperators.Group.LocallyFinite

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices by number -/

/-- Device `n`, counted round the 32. -/
def dv (n : ℕ) : Dev nD := ⟨n % 32, Nat.mod_lt _ (by decide)⟩

theorem dv_val (n : ℕ) : (dv n).val = n % 32 := rfl
theorem dv_self (c : Dev nD) : dv c.val = c := Fin.ext (Nat.mod_eq_of_lt c.isLt)

/-! ## Semaphores and cells -/

/-- The barrier semaphore; the send semaphore of transfer `k`; the receive semaphore of the block from device `j`;
    the weight copy's semaphore. -/
abbrev barS : Sem sig := (SemArray.scalar (sig.barrier 0 rfl) : Sems sig S_).sem
def sendS (k : Dev nD) : DmaSem sig := ⟨4 + k.val, by have : k.val < 32 := k.isLt; show _ < 69; omega⟩
def recvS (j : Dev nD) : DmaSem sig := ⟨36 + j.val, by have : j.val < 32 := j.isLt; show _ < 69; omega⟩
def wS : DmaSem sig := ⟨68, by decide⟩

abbrev barCell (c : Dev nD) : GSem nD τ sig := ((c : Thread nD τ), .reg barS)
abbrev sendCell (c k : Dev nD) : GSem nD τ sig := ((c : Thread nD τ), .dma (sendS k))
abbrev recvCell (c j : Dev nD) : GSem nD τ sig := ((c : Thread nD τ), .dma (recvS j))
abbrev wCell (c : Dev nD) : GSem nD τ sig := ((c : Thread nD τ), .dma wS)

/-! ## Blocks of the buffers -/

/-- The 128×128 row block `d` of a device's block of `x`, and the 128×128 column block `d` of its gathering buffer. -/
def rowOff (d : Dev nD) : Fin 2 → ℕ := ![128 * d.val, 0]
def colOff (d : Dev nD) : Fin 2 → ℕ := ![0, 128 * d.val]
theorem rowInb (d : Dev nD) : ∀ a, rowOff d a + S128x128.size a ≤ S4096x128.size a :=
  Rect.inb₂ (show 128 * d.val + 128 ≤ 4096 by have : d.val < 32 := d.isLt; omega) (show 0 + 128 ≤ 128 by omega)
theorem colInb (d : Dev nD) : ∀ a, colOff d a + S128x128.size a ≤ S128x4096.size a :=
  Rect.inb₂ (show 0 + 128 ≤ 128 by omega) (show 128 * d.val + 128 ≤ 4096 by have : d.val < 32 := d.isLt; omega)

abbrev rowR (d : Dev nD) : Rect S4096x128 := Rect.unit (rowOff d) S128x128.size (rowInb d)
abbrev colR (d : Dev nD) : Rect S128x4096 := Rect.unit (colOff d) S128x128.size (colInb d)

abbrev xM : Memref sig .tc .vmem S4096x128 .fp8e4m3 := Memref.whole cc0_scratch0
abbrev gM : Memref sig .tc .vmem S128x4096 .fp8e4m3 := Memref.whole cc0_scratch1
abbrev rowM (d : Dev nD) : Memref sig .tc .vmem S128x128 .fp8e4m3 := xM.slice (rowR d) (fun _ => rfl)
abbrev colM (d : Dev nD) : Memref sig .tc .vmem S128x128 .fp8e4m3 := gM.slice (colR d) (fun _ => rfl)
abbrev wHbm : Memref sig .tc .hbm S4096x2048 .f32 := Memref.whole main_arg1
abbrev wVmem : Memref sig .tc .vmem S4096x2048 .f32 := Memref.whole cc0_scratch2

/-- What a 128×128 block's transfer credits its semaphores, and what the weight matrix's copy does. -/
def N : ℕ := (colM 0).view.dmaCredit
def NW : ℕ := wVmem.view.dmaCredit
theorem N_pos : 0 < N := View.dmaCredit_pos _ (by decide)
theorem NW_pos : 0 < NW := View.dmaCredit_pos _ (by decide)
/-- Every 128×128 block of either buffer carries the same credit. -/
theorem credit_col {off : Fin 2 → ℕ} (h) (hx) :
    (gM.slice (Rect.unit (s := S128x4096) off S128x128.size h) hx : Memref sig .tc .vmem S128x128 .fp8e4m3).view.dmaCredit = N := rfl
theorem credit_row {off : Fin 2 → ℕ} (h) (hx) :
    (xM.slice (Rect.unit (s := S4096x128) off S128x128.size h) hx : Memref sig .tc .vmem S128x128 .fp8e4m3).view.dmaCredit = N := rfl
theorem credit_w : wVmem.view.dmaCredit = NW := rfl
theorem amount_colM (d : Dev nD) (s : DmaSem sig) : (colM d).view.amount (.dma s) = N := rfl
theorem amount_wM (s : DmaSem sig) : wVmem.view.amount (.dma s) = NW := rfl
attribute [irreducible] N NW

/-! ## Contents -/

/-- Device `c`'s block of `x` as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s block of `x` in the buffer its transfers read. -/
def X (c : Dev nD) : S4096x128.Idx → Elt F .fp8e4m3 := k0_pay1 (xstg m ρ c)

/-- Row `128·c + r`, column `128·j + q` of the gathered row block, by `(r, 128·j + q)`: device `j`'s block of `x` there. -/
def gath (c : Dev nD) : S128x4096.Idx → Elt F .fp8e4m3 := fun i =>
  X m ρ (dv ((i 1).val / 128)) ((rowR c).emb (Shape.pair (d := ![128, 128]) (i 0) ⟨(i 1).val % 128, Nat.mod_lt _ (by decide)⟩))

/-- The weight matrix device `c` is given. -/
def Wt (c : Dev nD) : S4096x2048.Idx → Elt F .f32 := (s₀ m ρ).mem ((c : Thread nD τ).loc main_arg1)

/-- Row block `d` of device `c`'s block of `x`, column block `d` of its gathering buffer, its weight array and the
    weight buffer, each held whole at given contents. -/
def rowPts (c d : Dev nD) (f : S4096x128.Idx → Elt F .fp8e4m3) : sProp 𝕄 :=
  ((rowM d).view.loc (c : Thread nD τ)) ↦[(rowM d).view.set]{fullShare} (f : Buf (Elt F) ((rowM d).view.loc (c : Thread nD τ)))
def colPts (c d : Dev nD) (f : S128x4096.Idx → Elt F .fp8e4m3) : sProp 𝕄 :=
  ((colM d).view.loc (c : Thread nD τ)) ↦[(colM d).view.set]{fullShare} (f : Buf (Elt F) ((colM d).view.loc (c : Thread nD τ)))
def hbmPts (c : Dev nD) (f : S4096x2048.Idx → Elt F .f32) : sProp 𝕄 :=
  (wHbm.view.loc (c : Thread nD τ)) ↦[wHbm.view.set]{fullShare} (f : Buf (Elt F) (wHbm.view.loc (c : Thread nD τ)))
def vmemPts (c : Dev nD) (f : S4096x2048.Idx → Elt F .f32) : sProp 𝕄 :=
  (wVmem.view.loc (c : Thread nD τ)) ↦[wVmem.view.set]{fullShare} (f : Buf (Elt F) (wVmem.view.loc (c : Thread nD τ)))

/-- What the local copy leaves of a device's own row block: handed over with the block it receives from itself. -/
def ownRow (c j : Dev nD) : sProp 𝕄 := if j = c then rowPts c c (X m ρ c) else iprop(emp)

/-! ## The schedule -/

def barPay (c d : Dev nD) : sProp 𝕄 := iprop(∃ f, colPts d c f)
def recvPay (c j : Dev nD) : sProp 𝕄 := iprop(colPts c j (gath m ρ c) ∗ ownRow m ρ c j)
def sendPay (c k : Dev nD) : sProp 𝕄 := rowPts c (dv (c.val + k.val)) (X m ρ c)
def wPay (c : Dev nD) : sProp 𝕄 := iprop(vmemPts c (Wt m ρ c) ∗ hbmPts c (Wt m ρ c))

omit [FloatOps F] in
instance rowPts_storable (c d : Dev nD) (f) : BI.Storable (upEmb : UEmb _ 𝕄) (rowPts (F := F) c d f) := by unfold rowPts; infer_instance
omit [FloatOps F] in
instance colPts_storable (c d : Dev nD) (f) : BI.Storable (upEmb : UEmb _ 𝕄) (colPts (F := F) c d f) := by unfold colPts; infer_instance
omit [FloatOps F] in
instance hbmPts_storable (c : Dev nD) (f) : BI.Storable (upEmb : UEmb _ 𝕄) (hbmPts (F := F) c f) := by unfold hbmPts; infer_instance
omit [FloatOps F] in
instance vmemPts_storable (c : Dev nD) (f) : BI.Storable (upEmb : UEmb _ 𝕄) (vmemPts (F := F) c f) := by unfold vmemPts; infer_instance
instance ownRow_storable (c j : Dev nD) : BI.Storable (upEmb : UEmb _ 𝕄) (ownRow m ρ c j) := by unfold ownRow; split <;> infer_instance

/-- The duties: at a barrier cell one of every OTHER device; at a transfer cell the one named 0. -/
def duty (c : Dev nD) : SemLoc sig → Finset (Dev nD)
  | .reg _ => Finset.univ.erase c
  | .dma s => if s.val < 5 then ∅ else {0}
def amt : SemLoc sig → ℕ
  | .reg _ => 1
  | .dma s => if s.val < 68 then N else NW
def pay (c : Dev nD) (d : Dev nD) : SemLoc sig → sProp 𝕄
  | .reg _ => barPay c d
  | .dma s => if s.val = 68 then wPay m ρ c else if 36 ≤ s.val then recvPay m ρ c (dv (s.val - 36)) else sendPay m ρ c (dv (s.val - 4))

theorem amt_pos (s : SemLoc sig) : 0 < amt s := by
  cases s with
  | reg _ => exact Nat.one_pos
  | dma s => dsimp only [amt]; split; exacts [N_pos, NW_pos]

/-- The protocol: one round, round 0, at the cells of the devices' TensorCores. -/
def Rd : Rounds.Schedule (GSem nD τ sig) (Dev nD) 𝕄 where
  duties g r := if r = 0 ∧ g.1.2 = .tc then duty g.1.1 g.2 else ∅
  unitless _ := False
  amount g _ _ := amt g.2
  payload g _ d := pay m ρ g.1.1 d g.2
  amount_pos g _ _ _ := amt_pos g.2

instance Rd_payload_storable (g : GSem nD τ sig) (r : ℕ) (d : Dev nD) :
    BI.Storable (upEmb : UEmb _ 𝕄) ((Rd (F := F) m ρ).payload g r d) := by
  show BI.Storable upEmb (pay m ρ g.1.1 d g.2)
  unfold pay
  split
  · unfold barPay; infer_instance
  · (repeat' split)
    · unfold wPay; infer_instance
    · unfold recvPay; infer_instance
    · unfold sendPay; infer_instance

section Sched
variable (c j k d : Dev nD)

theorem duties_at (s : SemLoc sig) : (Rd (F := F) m ρ).duties ((c : Thread nD τ), s) 0 = duty c s := by
  dsimp only [Rd]; rw [if_pos ⟨rfl, rfl⟩]
theorem duties_bar : (Rd (F := F) m ρ).duties (barCell c) 0 = Finset.univ.erase c := duties_at m ρ c _
theorem duties_recv : (Rd (F := F) m ρ).duties (recvCell c j) 0 = {0} := by
  rw [duties_at]; dsimp only [duty, recvS]; rw [if_neg (by omega)]
theorem duties_send (hk : k.val ≠ 0) : (Rd (F := F) m ρ).duties (sendCell c k) 0 = {0} := by
  rw [duties_at]; dsimp only [duty, sendS]; rw [if_neg (by omega)]
theorem duties_w : (Rd (F := F) m ρ).duties (wCell c) 0 = {0} := by
  rw [duties_at]; dsimp only [duty, wS]; rw [if_neg (by omega)]
theorem duties_later (g : GSem nD τ sig) : ∀ r, 1 ≤ r → (Rd (F := F) m ρ).duties g r = ∅ := fun r hr => by
  dsimp only [Rd]; rw [if_neg fun h => by omega]
/-- The send semaphore of the transfer that is not made has no duty at all. -/
theorem duties_send0 : ∀ r, 0 ≤ r → (Rd (F := F) m ρ).duties (sendCell c 0) r = ∅ := fun r _ => by
  by_cases h : r = 0
  · subst h; rw [duties_at]; dsimp only [duty, sendS]; rw [if_pos (by decide)]
  · dsimp only [Rd]; rw [if_neg fun h' => h h'.1]

theorem amt_lt {s : DmaSem sig} (h : s.val < 68) : amt (.dma s) = N := if_pos h
theorem amount_bar : (Rd (F := F) m ρ).amount (barCell c) 0 d = 1 := by dsimp only [Rd, amt]
theorem amount_recv : (Rd (F := F) m ρ).amount (recvCell c j) 0 d = N :=
  amt_lt (show 36 + j.val < 68 by have : j.val < 32 := j.isLt; omega)
theorem amount_send : (Rd (F := F) m ρ).amount (sendCell c k) 0 d = N :=
  amt_lt (show 4 + k.val < 68 by have : k.val < 32 := k.isLt; omega)
theorem amount_w : (Rd (F := F) m ρ).amount (wCell c) 0 d = NW := by
  show amt (.dma wS) = NW
  unfold amt; exact if_neg (by decide)

theorem expect_bar : (Rd (F := F) m ρ).expect (barCell c) 0 = 31 := by
  unfold Schedule.expect Schedule.amountOf
  rw [duties_bar]
  exact (Finset.sum_congr rfl fun d _ => amount_bar m ρ c d).trans (by
    rw [Finset.sum_const, Finset.card_erase_of_mem (Finset.mem_univ _), Finset.card_univ, Fintype.card_fin]; decide)
theorem expect_one {D : Schedule (GSem nD τ sig) (Dev nD) 𝕄} {g : GSem nD τ sig} {n : ℕ}
    (h : D.duties g 0 = {0}) (h' : D.amount g 0 0 = n) : D.expect g 0 = n := by
  unfold Schedule.expect Schedule.amountOf; rw [h, Finset.sum_singleton, h']
theorem expect_recv : (Rd (F := F) m ρ).expect (recvCell c j) 0 = N := expect_one (duties_recv m ρ c j) (amount_recv m ρ c j 0)
theorem expect_send (hk : k.val ≠ 0) : (Rd (F := F) m ρ).expect (sendCell c k) 0 = N :=
  expect_one (duties_send m ρ c k hk) (amount_send m ρ c k 0)
theorem expect_w : (Rd (F := F) m ρ).expect (wCell c) 0 = NW := expect_one (duties_w m ρ c) (amount_w m ρ c 0)

theorem payload_bar : (Rd (F := F) m ρ).payload (barCell c) 0 d = barPay c d := by dsimp only [Rd, pay]
theorem pay_recv {s : DmaSem sig} (h : s.val ≠ 68) (h' : 36 ≤ s.val) :
    pay m ρ c d (.dma s) = recvPay m ρ c (dv (s.val - 36)) := by
  unfold pay; exact (if_neg h).trans (if_pos h')
theorem pay_send {s : DmaSem sig} (h : s.val < 36) : pay m ρ c d (.dma s) = sendPay m ρ c (dv (s.val - 4)) := by
  unfold pay; exact (if_neg (by omega)).trans (if_neg (by omega))
theorem payload_recv : (Rd (F := F) m ρ).payload (recvCell c j) 0 d = recvPay m ρ c j := by
  have hj : j.val < 32 := j.isLt
  refine (pay_recv m ρ c d (show 36 + j.val ≠ 68 by omega) (show 36 ≤ 36 + j.val by omega)).trans ?_
  show recvPay m ρ c (dv (36 + j.val - 36)) = _
  rw [Nat.add_sub_cancel_left, dv_self]
theorem payload_send : (Rd (F := F) m ρ).payload (sendCell c k) 0 d = sendPay m ρ c k := by
  have hk : k.val < 32 := k.isLt
  refine (pay_send m ρ c d (show 4 + k.val < 36 by omega)).trans ?_
  show sendPay m ρ c (dv (4 + k.val - 4)) = _
  rw [Nat.add_sub_cancel_left, dv_self]
theorem payload_w : (Rd (F := F) m ρ).payload (wCell c) 0 d = wPay m ρ c := by
  show pay m ρ c d (.dma wS) = _
  unfold pay; exact if_pos rfl

/-- The rest of a cell's round, no duty taken. -/
theorem rest_bar : bigSep ((Rd (F := F) m ρ).duties (barCell c) 0 \ ∅) (fun d => (Rd (F := F) m ρ).payload (barCell c) 0 d)
    = bigSep (Finset.univ.erase c) (fun d => barPay c d) := by
  rw [Finset.sdiff_empty, duties_bar m ρ c]; exact bigSep_congr fun d _ => payload_bar m ρ c d
theorem rest_one {D : Schedule (GSem nD τ sig) (Dev nD) 𝕄} {g : GSem nD τ sig} {P : sProp 𝕄}
    (h : D.duties g 0 = {0}) (h' : D.payload g 0 0 = P) : bigSep (D.duties g 0 \ ∅) (fun d => D.payload g 0 d) = P := by
  rw [Finset.sdiff_empty, h, bigSep_singleton, h']
theorem rest_recv : bigSep ((Rd (F := F) m ρ).duties (recvCell c j) 0 \ ∅) (fun d => (Rd (F := F) m ρ).payload (recvCell c j) 0 d) = recvPay m ρ c j :=
  rest_one (duties_recv m ρ c j) (payload_recv m ρ c j 0)
theorem rest_send (hk : k.val ≠ 0) :
    bigSep ((Rd (F := F) m ρ).duties (sendCell c k) 0 \ ∅) (fun d => (Rd (F := F) m ρ).payload (sendCell c k) 0 d) = sendPay m ρ c k :=
  rest_one (duties_send m ρ c k hk) (payload_send m ρ c k 0)
theorem rest_w : bigSep ((Rd (F := F) m ρ).duties (wCell c) 0 \ ∅) (fun d => (Rd (F := F) m ρ).payload (wCell c) 0 d) = wPay m ρ c :=
  rest_one (duties_w m ρ c) (payload_w m ρ c 0)

end Sched

/-! ## What each device owes; the levels -/

/-- What device `c` still owes the others' receive cells from transfer `k` on. -/
def Osend (c : Dev nD) (k : ℕ) : CellTallies nD τ sig Unit := ∑ i ∈ Finset.Ico k 32, tallyAt (recvCell (dv (c.val + i)) c) () N
/-- What device `c` still owes the others' barrier cells from device `i` on. -/
def Osig (c : Dev nD) (i : ℕ) : CellTallies nD τ sig Unit := ∑ j ∈ Finset.Ico i 32, if dv j = c then 0 else tallyAt (barCell (dv j)) () 1
def O₀ (c : Dev nD) : CellTallies nD τ sig Unit := Osend c 1 + Osig c 0

theorem Osend_peel (c : Dev nD) {k : ℕ} (hk : k < 32) : Osend c k = Osend c (k + 1) + tallyAt (recvCell (dv (c.val + k)) c) () N := by
  unfold Osend; rw [Finset.sum_eq_sum_Ico_succ_bot hk, add_comm]
theorem Osig_peel (c : Dev nD) {i : ℕ} (hi : i < 32) (h : dv i ≠ c) : Osig c i = Osig c (i + 1) + tallyAt (barCell (dv i)) () 1 := by
  unfold Osig; rw [Finset.sum_eq_sum_Ico_succ_bot hi, if_neg h, add_comm]
theorem Osig_skip (c : Dev nD) {i : ℕ} (hi : i < 32) (h : dv i = c) : Osig c i = Osig c (i + 1) := by
  unfold Osig; rw [Finset.sum_eq_sum_Ico_succ_bot hi, if_pos h, zero_add]
theorem Osend_end (c : Dev nD) : Osend c 32 = 0 := by unfold Osend; rw [Finset.Ico_self, Finset.sum_empty]
theorem Osig_end (c : Dev nD) : Osig c 32 = 0 := by unfold Osig; rw [Finset.Ico_self, Finset.sum_empty]

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma s => if 36 ≤ s.val ∧ s.val < 68 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_dma (c : Dev nD) {s : DmaSem sig} (h : 36 ≤ s.val ∧ s.val < 68) : lv ((c : Thread nD τ), .dma s) () = 2 := if_pos h
theorem lv_recv (c j : Dev nD) : lv (recvCell c j) () = 2 :=
  lv_dma c (show 36 ≤ 36 + j.val ∧ 36 + j.val < 68 by have : j.val < 32 := j.isLt; omega)
theorem lv_bar (c : Dev nD) : lv (barCell c) () = 1 := by dsimp only [lv]

/-- A sum of tallies is positive only where one of them is. -/
theorem sum_pos_at {s : Finset ℕ} {f : ℕ → CellTallies nD τ sig Unit} {g : GSem nD τ sig} {u : Unit} (h : 0 < (∑ i ∈ s, f i) g u) :
    ∃ i ∈ s, 0 < f i g u := by
  by_contra hn
  push Not at hn
  rw [Finset.sum_apply, Finsupp.finset_sum_apply, Finset.sum_eq_zero fun i hi => Nat.le_zero.mp (hn i hi)] at h
  exact Nat.lt_irrefl 0 h

theorem tallyAt_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem Osend_pos {c : Dev nD} {k : ℕ} {g : GSem nD τ sig} {u : Unit} (h : 0 < Osend c k g u) : ∃ i ∈ Finset.Ico k 32, g = recvCell (dv (c.val + i)) c := by
  obtain ⟨i, hi, h⟩ := sum_pos_at h
  exact ⟨i, hi, tallyAt_pos h⟩
theorem Osig_pos {c : Dev nD} {k : ℕ} {g : GSem nD τ sig} {u : Unit} (h : 0 < Osig c k g u) : ∃ i ∈ Finset.Ico k 32, dv i ≠ c ∧ g = barCell (dv i) := by
  obtain ⟨i, hi, h⟩ := sum_pos_at h
  by_cases e : dv i = c
  · rw [if_pos e] at h; exact absurd h (Nat.lt_irrefl 0)
  · rw [if_neg e] at h; exact ⟨i, hi, e, tallyAt_pos h⟩

theorem O₀_pos {c : Dev nD} {g : GSem nD τ sig} {u : Unit} (h : 0 < O₀ c g u) : (∃ a b, g = recvCell a b) ∨ ∃ a, g = barCell a := by
  unfold O₀ at h
  rw [Pi.add_apply, Finsupp.add_apply] at h
  rcases Nat.pos_iff_ne_zero.mp h |> fun h => (Nat.eq_zero_or_pos (Osend c 1 g u)) with h0 | h1
  · rw [h0, Nat.zero_add] at h; obtain ⟨i, -, -, e⟩ := Osig_pos h; exact Or.inr ⟨_, e⟩
  · obtain ⟨i, -, e⟩ := Osend_pos h1; exact Or.inl ⟨_, _, e⟩

/-- A staging semaphore is waited on below everything a device owes. -/
theorem mayWait_stage (c : Dev nD) (q : DmaSem sig) (hq : q.val < 36) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨a, b, rfl⟩ | ⟨a, rfl⟩ <;> exact Finset.mem_singleton_self _)
      (fun p hp => by rw [Finset.mem_singleton.mp hp]; dsimp only [lv]; rw [if_neg (fun h => absurd h.1 (by omega))])
      (fun g u hg => by
        rcases O₀_pos hg with ⟨a, b, rfl⟩ | ⟨a, rfl⟩
        · rw [show u = () from rfl, lv_recv]; decide
        · rw [show u = () from rfl, lv_bar]; decide)
  · rw [MayWait_zero]; iintro -; iempintro

/-- At its barrier wait a device owes receive cells only, which lie above its barrier cell. -/
theorem mayWait_bar (c : Dev nD) : (levAts L lv : sProp 𝕄) ⊢ MayWait (c : Thread nD τ) (.reg barS) () (Osend c 1) :=
  MayOwe.of_cut (L := L) (lev := lv) 1 (fun p hp => by rw [Finset.mem_singleton.mp hp, L_tc]; exact Finset.mem_singleton_self _)
    (fun g u hg => by obtain ⟨i, -, rfl⟩ := Osend_pos hg; exact Finset.mem_singleton_self _)
    (fun p hp => by rw [Finset.mem_singleton.mp hp]; exact le_of_eq (lv_bar c))
    (fun g u hg => by obtain ⟨i, -, rfl⟩ := Osend_pos hg; rw [show u = () from rfl, lv_recv]; decide)

/-! ## The cells of the protocol -/

/-- The kernel's own semaphores — the send, the receive and the weight ones — and with them the barrier's. -/
def osem (k : Fin 65) : SemLoc sig := .dma ⟨4 + k.val, by have := k.isLt; show _ < 69; omega⟩
def csem (k : Option (Fin 65)) : SemLoc sig := k.elim (.reg barS) osem
def kcell (ck : Dev nD × Option (Fin 65)) : GSem nD τ sig := ((ck.1 : Thread nD τ), csem ck.2)

theorem osem_injective : Function.Injective osem := fun a b h => by
  have h' : 4 + a.val = 4 + b.val := congrArg Fin.val (SemLoc.dma.inj h)
  exact Fin.ext (by omega)
theorem csem_injective : Function.Injective csem := fun a b h => by
  cases a <;> cases b
  · rfl
  · cases h
  · cases h
  · exact congrArg some (osem_injective h)
theorem kcell_injective : Function.Injective kcell := fun a b h => by
  obtain ⟨c, k⟩ := a; obtain ⟨c', k'⟩ := b
  have h1 : c = c' := congrArg (fun g : GSem nD τ sig => g.1.1) h
  have h2 : k = k' := csem_injective (congrArg Prod.snd h)
  rw [h1, h2]
def kcells : Finset (GSem nD τ sig) := Finset.univ.map ⟨kcell, kcell_injective⟩

theorem bar_mem (c : Dev nD) : barCell c ∈ kcells := Finset.mem_map.mpr ⟨(c, none), Finset.mem_univ _, rfl⟩
theorem dma_mem (c : Dev nD) (s : DmaSem sig) (hs : 4 ≤ s.val) : (((c : Thread nD τ), SemLoc.dma s) : GSem nD τ sig) ∈ kcells :=
  Finset.mem_map.mpr ⟨(c, some ⟨s.val - 4, by have : s.val < 69 := s.isLt; omega⟩), Finset.mem_univ _,
    congrArg (fun t : DmaSem sig => (((c : Thread nD τ), SemLoc.dma t) : GSem nD τ sig)) (Fin.ext (show 4 + (s.val - 4) = s.val by omega))⟩
theorem recv_mem (c j : Dev nD) : recvCell c j ∈ kcells := dma_mem c _ (show 4 ≤ 36 + j.val by omega)
theorem send_mem (c k : Dev nD) : sendCell c k ∈ kcells := dma_mem c _ (show 4 ≤ 4 + k.val by omega)
theorem w_mem (c : Dev nD) : wCell c ∈ kcells := dma_mem c _ (show 4 ≤ 68 by omega)

/-- What every device knows of every cell: its invariant stands, and its one round is reached. -/
def Rec : sProp 𝕄 := bigSep kcells fun g => iprop((∃ κ : ℕ, cellInv ER (Rd m ρ) κ g) ∗ reached ER g 0)

instance Rec_persistent : BI.Persistent (Rec (F := F) m ρ) := by unfold Rec; infer_instance

theorem Rec_at {g : GSem nD τ sig} (hg : g ∈ kcells) : Rec (F := F) m ρ ⊢ iprop((∃ κ : ℕ, cellInv ER (Rd m ρ) κ g) ∗ reached ER g 0) := by
  unfold Rec; exact bigSep_elim hg

end Cert.A2A

end
-- ==== Proof.Steps.lean ====
/-
The steps of the all-to-all, each stated once for every device, block and transfer: a signal, a transfer, a wait. A step
is `R ∗ (state after) ⊢ wp (rest)` giving `R ∗ (state before) ⊢ wp (operation, then rest)`, where `R` is whatever the
step does not touch and the states count how far a run of like steps has come.
-/
module

public import proofs.«01_k».proof.Proof.Protocol
public import Idealize.SL.BI.BigOpNat
public import Idealize.ShloMosaic.Lib.Pipeline.ValueKit.Geometry

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
theorem Ico_ne {c : Dev nD} {i : ℕ} (hi : i < 32) (h : c.val ≠ i) : dv i ≠ c := fun e => h (by rw [← e, dv_val, Nat.mod_eq_of_lt hi])
theorem dv_eq {c : Dev nD} {i : ℕ} (h : c.val = i) : dv i = c := by rw [← h, dv_self]

/-- Device `c` owes `O`, whatever it has waited on. -/
def Ow (c : Dev nD) (O : CellTallies nD τ sig Unit) : sProp 𝕄 := iprop(∃ W : Waits sig Unit, owes (c : Thread nD τ) O W)

section Steps
variable (c : Dev nD)

/-! ## The barrier -/

/-- What device `c` needs for its signal to device `j`: the duty, and the column block `j` is to write. -/
def barGive (j : Dev nD) : sProp 𝕄 := iprop(dutyTok ER (barCell j) 0 c ∗ barPay j c)

/-- Signals to the devices before `i` made. -/
def Sig (i : ℕ) : sProp 𝕄 :=
  iprop(Rec m ρ ∗ Ow c (Osend c 1 + Osig c i) ∗ bigSep (Finset.Ico i 32) fun j => if dv j = c then iprop(emp) else barGive c (dv j))

/-- The conditional signal to device `i`: made unless `i` is the device itself. -/
theorem sig_step {R : sProp 𝕄} {α : Type} {Q : α → sProp 𝕄} {β : Type} {i : ℕ} (hi : i < 32) {w : Dev nD → BitVec 1} {inst : Decidable (w c = 1#1)} (hw : ∀ d, w d = 1#1 ↔ d.val ≠ i) {n : ℕ} {hn : w c = 1#1 → n < nD} (e : n = i)
    {k : Prog (TpuEff nD τ sig (Elt F) Λ₀ .tc) β} {K : β → Prog (TpuEff nD τ sig (Elt F) Λ₀ .tc) α}
    (h : iprop(R ∗ Sig m ρ c (i + 1)) ⊢ Wp (F := F) c (k >>= K) Q) :
    iprop(R ∗ Sig m ρ c i) ⊢ Wp (F := F) c ((if h : w c = 1#1 then (semSignalWord (⟨n, hn h⟩ : Dev nD) barS 1#32 >>= fun _ => k) else k) >>= K) Q := by
  subst e
  unfold Sig
  rw [bigSep_Ico_succ_bot hi]
  by_cases hp : w c = 1#1
  · have hc : dv n ≠ c := Ico_ne hi ((hw c).mp hp)
    rw [dif_pos hp, if_neg hc, show (⟨n, hn hp⟩ : Dev nD) = dv n from Fin.ext (Nat.mod_eq_of_lt hi).symm]
    simp only [semSignalWord, Prog.bind_op, Prog.bind_ret]
    unfold Ow barGive
    iintro ⟨HR, #HRec, ⟨%W, HO⟩, ⟨Htok, Hcol⟩, Hrest⟩
    ihave HRb := (Rec_at m ρ (bar_mem (dv n))) $$ HRec
    icases HRb with ⟨⟨%κ, #HI⟩, #Hr⟩
    iapply (Rounds.wp_signal 𝒱₀ ER (Rd m ρ) (c : Thread nD τ) none (dst := (dv n : Thread nD τ)) (κ := κ) (d := c)
      (by rw [duties_bar]; exact Finset.mem_erase.mpr ⟨Ne.symm hc, Finset.mem_univ _⟩) ((amount_bar m ρ (dv n) c).trans (by decide)) ()
      (Osend c 1 + Osig c (n + 1)) (show Osend c 1 + Osig c n = _ by rw [Osig_peel c hi hc, add_assoc]; rfl) (W := W)) $$ [HO Htok Hcol]
    · isplitr; · iexact HI
      isplitl [HO]; · iexact HO
      isplitl [Htok]; · iexact Htok
      isplitl [Hcol]; · rw [payload_bar]; iexact Hcol
      iexact Hr
    iintro HO
    iapply h
    isplitl [HR]; · iexact HR
    unfold Sig Ow barGive
    isplitr; · iexact HRec
    isplitl [HO]; · iexists W; iexact HO
    iexact Hrest
  · have hc : dv n = c := dv_eq (not_not.mp fun hne => hp ((hw c).mpr hne))
    rw [dif_neg hp, if_pos hc, Osig_skip c hi hc]
    iintro ⟨HR, HRec, HO, -, Hrest⟩
    iapply h
    isplitl [HR]; · iexact HR
    unfold Sig
    isplitl [HRec]; · iexact HRec
    isplitl [HO]; · iexact HO
    iexact Hrest

/-- The wait for the 31 signals: every other device's column block comes with it. -/
theorem bar_wait {R : sProp 𝕄} {α : Type} {Q : α → sProp 𝕄} {k : PUnit.{1} → Prog (TpuEff nD τ sig (Elt F) Λ₀ .tc) α}
    (h : iprop(R ∗ Rec m ρ ∗ Ow c (Osend c 1) ∗ semVal (barCell c) 0 ∗ bigSep (Finset.univ.erase c) (fun d => barPay c d)) ⊢ Wp (F := F) c (k PUnit.unit) Q) :
    iprop((R ∗ levAts L lv ∗ cred (tallyAt (barCell c) () 31) ∗ atPos ER (barCell c) 0 ∅ 0) ∗ Sig m ρ c 32)
      ⊢ Wp (F := F) c (.op (.semWait barS (31#32 : BitVec 32).toInt) k) Q := by
  unfold Sig Ow
  rw [Osig_end, add_zero]
  iintro ⟨⟨HR, Hlev, Hc, Hat⟩, #HRec, ⟨%W, HO⟩, -⟩
  ihave HRb := (Rec_at m ρ (bar_mem c)) $$ HRec
  icases HRb with ⟨⟨%κ, #HI⟩, -⟩
  iapply (Rounds.wp_wait_rest_token 𝒱₀ ER (Rd m ρ) (c : Thread nD τ) none (κ := κ)
      (wpE_semWait_eq 𝒱₀ (c : Thread nD τ) none Set.univ) (Set.mem_univ _) () (O := Osend c 1) (W := W) (R := 0) (m := 0) (T := ∅)
      (by rw [expect_bar]; decide)) $$ [Hc HO Hlev Hat]
  · isplitr; · iexact HI
    isplitl [Hc]; · iexact Hc
    isplitl [HO]; · iexact HO
    isplitl [Hlev]; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ κ) (fun h => h) (R := 0 + 1) (duties_later m ρ (barCell c))) $$ [Hat] with Hz
  · isplitr; · iexact HI
    iexact Hat
  iapply h
  isplitl [HR]; · iexact HR
  isplitr; · iexact HRec
  unfold Ow
  isplitl [HO]; · iexists _; iexact HO
  isplitl [Hz]; · iexact Hz
  iexact Hp

/-! ## The waits for transfers -/

/-- The wait on an own transfer cell, owing nothing: its payload and its counter at zero. -/
theorem wait_own {α : Type} {Q : α → sProp 𝕄} {s : DmaSem sig} {n : ℕ} {P : sProp 𝕄} (hs : 4 ≤ s.val) (he : (Rd (F := F) m ρ).expect ((c : Thread nD τ), .dma s) 0 = n)
    (hr : bigSep ((Rd (F := F) m ρ).duties ((c : Thread nD τ), .dma s) 0 \ ∅) (fun d => (Rd (F := F) m ρ).payload ((c : Thread nD τ), .dma s) 0 d) = P)
    {sp sp' : Space} {s₁ s₂ : Shape} {e₁ e₂ : EltTy} {src : Memref sig .tc sp' s₂ e₂} {dst : Memref sig .tc sp s₁ e₁}
    (hd : dst.view.dmaCredit = n) {hsrc : src.view.WordExact} {hdst : dst.view.WordExact}
    {k : PUnit.{1} → Prog (TpuEff nD τ sig (Elt F) Λ₀ .tc) α} :
    iprop(Rec m ρ ∗ Ow c 0 ∗ cred (tallyAt ((c : Thread nD τ), .dma s) () n) ∗ atPos ER ((c : Thread nD τ), .dma s) 0 ∅ 0)
      ⊢ iprop((Ow c 0 ∗ semVal ((c : Thread nD τ), .dma s) 0 ∗ P -∗ Wp (F := F) c (k PUnit.unit) Q) -∗ Wp (F := F) c (.op (.waitDma2 s src dst hsrc hdst) k) Q) := by
  unfold Ow
  iintro ⟨#HRec, ⟨%W, HO⟩, Hc, Hat⟩ Hk
  ihave HRb := (Rec_at m ρ (dma_mem c s hs)) $$ HRec
  icases HRb with ⟨⟨%κ, #HI⟩, -⟩
  iapply (Rounds.wp_wait_rest_token 𝒱₀ ER (Rd m ρ) (c : Thread nD τ) none (κ := κ) (k' := n)
      (fun K => (wpE_waitDma2_eq 𝒱₀ (c : Thread nD τ) none Set.univ K).trans (by rw [hd])) (Set.mem_univ _) () (O := 0) (W := W) (R := 0) (m := 0) (T := ∅)
      (by rw [Nat.zero_add, he])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq hr) $$ Hpay
  imod (Rounds.cell_close ER (Rd m ρ) (Set.mem_univ κ) (fun h => h) (R := 0 + 1) (duties_later m ρ ((c : Thread nD τ), .dma s))) $$ [Hat] with Hz
  · isplitr; · iexact HI
    iexact Hat
  iapply Hk
  isplitl [HO]; · iexists _; iexact HO
  isplitl [Hz]; · iexact Hz
  iexact Hp

/-- What device `c` holds for its wait for block `j`, and what it has after. -/
def rcvDue (j : ℕ) : sProp 𝕄 := iprop(cred (tallyAt (recvCell c (dv j)) () N) ∗ atPos ER (recvCell c (dv j)) 0 ∅ 0)
def rcvGot (j : ℕ) : sProp 𝕄 := iprop(semVal (recvCell c (dv j)) 0 ∗ recvPay m ρ c (dv j))
/-- Blocks before `j` received. -/
def Rcv (j : ℕ) : sProp 𝕄 :=
  iprop(Rec m ρ ∗ Ow c 0 ∗ bigSep (Finset.Ico j 32) (rcvDue c) ∗ bigSep (Finset.Ico 0 j) (rcvGot m ρ c))

theorem rcv_step {R : sProp 𝕄} {α : Type} {Q : α → sProp 𝕄} {j : ℕ} (hj : j < 32) {s : DmaSem sig} (es : s = recvS (dv j))
    {s₂ : Shape} {e₂ : EltTy} {sp' : Space} {src : Memref sig .tc sp' s₂ e₂} {off : Fin 2 → ℕ} {hb : ∀ a, off a + S128x128.size a ≤ S128x4096.size a} {hx}
    {hsrc : src.view.WordExact} {hdst : (gM.slice (Rect.unit (s := S128x4096) off S128x128.size hb) hx : Memref sig .tc .vmem S128x128 .fp8e4m3).view.WordExact}
    {k : PUnit.{1} → Prog (TpuEff nD τ sig (Elt F) Λ₀ .tc) α} (h : iprop(R ∗ Rcv m ρ c (j + 1)) ⊢ Wp (F := F) c (k PUnit.unit) Q) :
    iprop(R ∗ Rcv m ρ c j) ⊢ Wp (F := F) c (.op (.waitDma2 s src (gM.slice (Rect.unit (s := S128x4096) off S128x128.size hb) hx) hsrc hdst) k) Q := by
  subst es
  unfold Rcv
  rw [bigSep_Ico_succ_bot hj]
  iintro ⟨HR, #HRec, HO, ⟨Hd, Hrest⟩, Hgot⟩
  unfold rcvDue
  icases Hd with ⟨Hc, Hat⟩
  iapply (wait_own m ρ c (show 4 ≤ 36 + (dv j).val by omega) (expect_recv m ρ c (dv j)) (rest_recv m ρ c (dv j)) (credit_col hb hx)) $$ [HO Hc Hat]
  · isplitr; · iexact HRec
    isplitl [HO]; · iexact HO
    isplitl [Hc] <;> iassumption
  iintro ⟨HO, Hz, Hp⟩
  iapply h
  isplitl [HR]; · iexact HR
  unfold Rcv
  rw [bigSep_Ico_succ_top (Nat.zero_le j)]
  isplitr; · iexact HRec
  isplitl [HO]; · iexact HO
  isplitl [Hrest]; · unfold rcvDue; iexact Hrest
  isplitl [Hz Hp]
  · unfold rcvGot; isplitl [Hz] <;> iassumption
  iexact Hgot

/-- The same for the transfers out. -/
def sndDue (k : ℕ) : sProp 𝕄 := iprop(cred (tallyAt (sendCell c (dv k)) () N) ∗ atPos ER (sendCell c (dv k)) 0 ∅ 0)
def sndGot (k : ℕ) : sProp 𝕄 := iprop(semVal (sendCell c (dv k)) 0 ∗ sendPay m ρ c (dv k))
/-- Transfers before `k` known to have left. -/
def Sw (k : ℕ) : sProp 𝕄 :=
  iprop(Rec m ρ ∗ Ow c 0 ∗ bigSep (Finset.Ico k 32) (sndDue c) ∗ bigSep (Finset.Ico 1 k) (sndGot m ρ c))

theorem sw_step {R : sProp 𝕄} {α : Type} {Q : α → sProp 𝕄} {j : ℕ} (h1 : 1 ≤ j) (hj : j < 32) {s : DmaSem sig} (es : s = sendS (dv j))
    {s₂ : Shape} {e₂ : EltTy} {sp' : Space} {src : Memref sig .tc sp' s₂ e₂} {off : Fin 2 → ℕ} {hb : ∀ a, off a + S128x128.size a ≤ S4096x128.size a} {hx}
    {hsrc : src.view.WordExact} {hdst : (xM.slice (Rect.unit (s := S4096x128) off S128x128.size hb) hx : Memref sig .tc .vmem S128x128 .fp8e4m3).view.WordExact}
    {k : PUnit.{1} → Prog (TpuEff nD τ sig (Elt F) Λ₀ .tc) α} (h : iprop(R ∗ Sw m ρ c (j + 1)) ⊢ Wp (F := F) c (k PUnit.unit) Q) :
    iprop(R ∗ Sw m ρ c j) ⊢ Wp (F := F) c (.op (.waitDma2 s src (xM.slice (Rect.unit (s := S4096x128) off S128x128.size hb) hx) hsrc hdst) k) Q := by
  subst es
  have hne : (dv j).val ≠ 0 := by rw [dv_val, Nat.mod_eq_of_lt hj]; omega
  unfold Sw
  rw [bigSep_Ico_succ_bot hj]
  iintro ⟨HR, #HRec, HO, ⟨Hd, Hrest⟩, Hgot⟩
  unfold sndDue
  icases Hd with ⟨Hc, Hat⟩
  iapply (wait_own m ρ c (show 4 ≤ 4 + (dv j).val by omega) (expect_send m ρ c (dv j) hne) (rest_send m ρ c (dv j) hne) (credit_row hb hx)) $$ [HO Hc Hat]
  · isplitr; · iexact HRec
    isplitl [HO]; · iexact HO
    isplitl [Hc] <;> iassumption
  iintro ⟨HO, Hz, Hp⟩
  iapply h
  isplitl [HR]; · iexact HR
  unfold Sw
  rw [bigSep_Ico_succ_top h1]
  isplitr; · iexact HRec
  isplitl [HO]; · iexact HO
  isplitl [Hrest]; · unfold sndDue; iexact Hrest
  isplitl [Hz Hp]
  · unfold sndGot; isplitl [Hz] <;> iassumption
  iexact Hgot

/-! ## The transfers -/

/-- Block `i` of device `d`'s block of `x`, written to column block `d` of device `i`'s gathering buffer, is what the
    gathered row block has there. -/
theorem col_written (d i : Dev nD) (f : S128x4096.Idx → Elt F .fp8e4m3) :
    ∀ x ∈ (colM d).view.set, (colM d).view.write (Elt F) f ((rowM i).view.read (Elt F) (X m ρ d)) Finset.univ x = gath m ρ i x := by
  intro x hx
  obtain ⟨y, -, rfl⟩ := Finset.mem_map.mp hx
  rw [View.write_emb_of_mem _ _ (Finset.mem_univ y)]
  show X m ρ d ((rowR i).emb y) = gath m ρ i ((colR d).emb y)
  have e1 : (((colR d).emb y) 1).val = 128 * d.val + (y 1).val := Idealize.ShloMosaic.ValueKit.rect_emb_unit_val (s := S128x4096) (colOff d) S128x128.size (colInb d) y 1
  have e0 : (((colR d).emb y) 0).val = 0 + (y 0).val := Idealize.ShloMosaic.ValueKit.rect_emb_unit_val (s := S128x4096) (colOff d) S128x128.size (colInb d) y 0
  have hy : (y 1).val < 128 := (y 1).isLt
  have hd : dv ((((colR d).emb y) 1).val / 128) = d := by
    rw [e1, show (128 * d.val + (y 1).val) / 128 = d.val by omega, dv_self]
  have hp : Shape.pair (d := ![128, 128]) (((colR d).emb y) 0) ⟨(((colR d).emb y) 1).val % 128, Nat.mod_lt _ (by decide)⟩ = y := by
    funext a
    match a with
    | 0 => exact Fin.ext (e0.trans (Nat.zero_add _))
    | 1 => exact Fin.ext (show (((colR d).emb y) 1).val % 128 = (y 1).val by rw [e1]; omega)
  unfold gath
  rw [hd]
  exact congrArg (fun z => X m ρ d ((rowR i).emb z)) hp.symm

/-- What transfer `k` of device `c` needs. -/
def sndNeed (k : ℕ) : sProp 𝕄 :=
  iprop(dutyTok ER (sendCell c (dv k)) 0 0 ∗ dutyTok ER (recvCell (dv (c.val + k)) c) 0 0 ∗ rowPts c (dv (c.val + k)) (X m ρ c) ∗ barPay c (dv (c.val + k)))
/-- Transfers before `k` issued. -/
def Snd (k : ℕ) : sProp 𝕄 :=
  iprop(Rec m ρ ∗ Ow c (Osend c k) ∗ bigSep (Finset.Ico k 32) (sndNeed m ρ c)
    ∗ bigSep (Finset.Ico 1 k) fun j => cred (tallyAt (sendCell c (dv j)) () N))

theorem off4_eq {k : ℕ} (h1 : 1 ≤ k) (hk : k < 32) : k0_off4 c (BitVec.ofNat 32 k) = rowOff (dv (c.val + k)) := by
  have := k0_off4_eq c ⟨k - 1, by omega⟩
  rw [show 1 + (k - 1) = k by omega] at this
  rw [this]
  show ![128 * ((c.val + (k - 1) + 1) % 32), 0] = ![128 * ((c.val + k) % 32), 0]
  rw [show c.val + (k - 1) + 1 = c.val + k by omega]
theorem off2_eq : k0_off2 c = colOff c := k0_off2_eq c
theorem off3_eq : k0_off3 c = rowOff c := k0_off3_eq c
/-- The receive semaphore of a device's own block. -/
theorem own_recv : ((SemArray.slice cc0_scratch5 (Rect.unit (s := S32) (k0_off1 c) S1.size (k0_off1_inb c))).squeeze S_ squeezes_S1_S_).sem = recvS c := by
  revert c; decide +kernel

theorem snd_step {R : sProp 𝕄} {α : Type} {Q : α → sProp 𝕄} {k : ℕ} (h1 : 1 ≤ k) (hk : k < 32) {n : Dev nD → ℕ} {hn : n c < nD} (e : ∀ d, n d = (d.val + k) % 32)
    {o₁ o₂ : Fin 2 → ℕ} (e₁ : o₁ = rowOff (dv (c.val + k))) (e₂ : o₂ = colOff c) {hb₁ hx₁ hb₂ hx₂}
    {sS sR : DmaSem sig} (eS : sS = sendS (dv k)) (eR : sR = recvS c)
    {hsc : (gM.slice (Rect.unit (s := S128x4096) o₂ S128x128.size hb₂) hx₂ : Memref sig (Dev.tc (⟨n c, hn⟩ : Dev nD) : Thread nD τ).2.kind .vmem S128x128 .fp8e4m3).view.ref.isScScratch = false}
    {hsrc : (xM.slice (Rect.unit (s := S4096x128) o₁ S128x128.size hb₁) hx₁ : Memref sig .tc .vmem S128x128 .fp8e4m3).view.WordExact}
    {hdst : (gM.slice (Rect.unit (s := S128x4096) o₂ S128x128.size hb₂) hx₂ : Memref sig .tc .vmem S128x128 .fp8e4m3).view.WordExact}
    {hsem : DmaTarget.Typed .vmem (.dma sR) (.remote (Dev.tc (⟨n c, hn⟩ : Dev nD) : Thread nD τ)
      (gM.slice (Rect.unit (s := S128x4096) o₂ S128x128.size hb₂) hx₂ : Memref sig .tc .vmem S128x128 .fp8e4m3) (.dma sS) hsc)}
    {K : PUnit.{1} → Prog (TpuEff nD τ sig (Elt F) Λ₀ .tc) α} (h : iprop(R ∗ Snd m ρ c (k + 1)) ⊢ Wp (F := F) c (K PUnit.unit) Q) :
    iprop(R ∗ Snd m ρ c k) ⊢ Wp (F := F) c (.op (.enqueueDma (xM.slice (Rect.unit (s := S4096x128) o₁ S128x128.size hb₁) hx₁)
      (.remote (Dev.tc (⟨n c, hn⟩ : Dev nD) : Thread nD τ) (gM.slice (Rect.unit (s := S128x4096) o₂ S128x128.size hb₂) hx₂) (.dma sS) hsc) (.dma sR) hsrc hdst hsem) K) Q := by
  subst e₁ e₂ eS eR
  obtain ⟨d, hd⟩ : ∃ d : Dev nD, d = ⟨n c, hn⟩ := ⟨_, rfl⟩
  have hd' : d = dv (c.val + k) := hd.trans (Fin.ext (e c))
  generalize_proofs at *
  revert hsc hsem
  rw [← hd]
  subst hd'
  intro hsc hsem
  have hne : (dv k).val ≠ 0 := by rw [dv_val, Nat.mod_eq_of_lt hk]; omega
  unfold Snd
  rw [bigSep_Ico_succ_bot hk]
  unfold sndNeed Ow barPay
  iintro ⟨HR, #HRec, ⟨%W, HO⟩, ⟨⟨HtS, HtR, Hrow, ⟨%f, Hcol⟩⟩, Hrest⟩, Hcr⟩
  ihave HRa := (Rec_at m ρ (send_mem c (dv k))) $$ HRec
  icases HRa with ⟨⟨%κ, #HI⟩, #Hr⟩
  ihave HRb := (Rec_at m ρ (recv_mem (dv (c.val + k)) c)) $$ HRec
  icases HRb with ⟨⟨%κ', #HI'⟩, #Hr'⟩
  unfold rowPts colPts
  iapply (Rounds.wp_send_pointsTo 𝒱₀ ER (Rd m ρ) (c : Thread nD τ) none (κ₁ := κ) (κ₂ := κ')
    (r₁ := 0) (r₂ := 0) (d₁ := 0) (d₂ := 0) (fd := f)
    (by rw [duties_send _ _ _ _ hne]; exact Finset.mem_singleton_self _) (by rw [duties_recv]; exact Finset.mem_singleton_self _)
    () () N (amount_colM c _) (amount_send m ρ c (dv k) 0) (amount_recv m ρ (dv (c.val + k)) c 0) (Osend c (k + 1)) (Osend_peel c hk) (W := W)
    (by rw [payload_send]; unfold sendPay rowPts; rw [dv_val, Nat.mod_eq_of_lt hk])
    (by
      rw [payload_recv]; unfold recvPay ownRow colPts
      rw [if_neg, pointsTo_congr (col_written m ρ c (dv (c.val + k)) f)]
      · exact BI.sep_emp.2
      · intro hcd
        have := congrArg Fin.val hcd
        rw [dv_val] at this
        have hc : c.val < 32 := c.isLt
        omega)) $$ [Hrow Hcol HO HtS HtR]
  · isplitr; · iexact HI
    isplitr; · iexact HI'
    isplitl [Hrow]; · iexact Hrow
    isplitl [Hcol]; · iexact Hcol
    isplitl [HO]; · iexact HO
    isplitl [HtS]; · iexact HtS
    isplitr; · iexact Hr
    isplitl [HtR]; · iexact HtR
    iexact Hr'
  iintro ⟨Hc, HO⟩
  iapply h
  isplitl [HR]; · iexact HR
  unfold Snd sndNeed Ow barPay rowPts colPts
  rw [bigSep_Ico_succ_top h1]
  isplitr; · iexact HRec
  isplitl [HO]; · iexists _; iexact HO
  isplitl [Hrest]; · iexact Hrest
  isplitl [Hc] <;> iassumption

/-- The weight matrix, copied whole, is what the weight buffer then holds. -/
theorem w_landed (f g : S4096x2048.Idx → Elt F .f32) :
    wVmem.view.write (Elt F) f (wHbm.view.read (Elt F) g) Finset.univ = g := View.write_whole_univ cc0_scratch2 f g

/-- The weight matrix's copy. -/
theorem w_copy {α : Type} {Q : α → sProp 𝕄} {s : DmaSem sig} (es : s = wS) {hsrc : wHbm.view.WordExact} {hdst : wVmem.view.WordExact}
    {hsem : DmaTarget.Typed (nD := nD) .hbm (.dma s) (DmaTarget.here (p := (.tc : Proc τ)) wVmem)}
    {K : PUnit.{1} → Prog (TpuEff nD τ sig (Elt F) Λ₀ .tc) α} {f : S4096x2048.Idx → Elt F .f32} :
    iprop(Rec m ρ ∗ hbmPts c (Wt m ρ c) ∗ vmemPts c f ∗ dutyTok ER (wCell c) 0 0)
      ⊢ iprop((cred (tallyAt (wCell c) () NW) -∗ Wp (F := F) c (K PUnit.unit) Q) -∗ Wp (F := F) c (.op (.enqueueDma wHbm (.here wVmem) (.dma s) hsrc hdst hsem) K) Q) := by
  subst es
  iintro ⟨HRec, Hh, Hv, Ht⟩ Hk
  ihave HRa := (Rec_at m ρ (w_mem c)) $$ HRec
  icases HRa with ⟨⟨%κ, HI⟩, Hr⟩
  unfold hbmPts vmemPts
  iapply (Rounds.wp_copy_pointsTo 𝒱₀ ER (Rd m ρ) (c : Thread nD τ) none (κ := κ) (r := 0) (d := 0) (fd := f)
    (by rw [duties_w]; exact Finset.mem_singleton_self _) () NW (amount_wM _) (amount_w m ρ c 0)
    (by
      rw [payload_w]; unfold wPay vmemPts hbmPts
      rw [w_landed])) $$ [HI Hh Hv Ht Hr]
  · isplitl [HI]; · iexact HI
    isplitl [Hh]; · iexact Hh
    isplitl [Hv]; · iexact Hv
    isplitl [Ht] <;> iassumption
  iexact Hk

/-- The device's own block, copied locally. -/
theorem own_copy {α : Type} {Q : α → sProp 𝕄} {o₁ o₂ : Fin 2 → ℕ} (e₁ : o₁ = rowOff c) (e₂ : o₂ = colOff c) {hb₁ hx₁ hb₂ hx₂} {s : DmaSem sig} (es : s = recvS c)
    {hsrc : (xM.slice (Rect.unit (s := S4096x128) o₁ S128x128.size hb₁) hx₁ : Memref sig .tc .vmem S128x128 .fp8e4m3).view.WordExact}
    {hdst : (gM.slice (Rect.unit (s := S128x4096) o₂ S128x128.size hb₂) hx₂ : Memref sig .tc .vmem S128x128 .fp8e4m3).view.WordExact}
    {hsem : DmaTarget.Typed (nD := nD) .vmem (.dma s) (DmaTarget.here (p := (.tc : Proc τ)) (gM.slice (Rect.unit (s := S128x4096) o₂ S128x128.size hb₂) hx₂))}
    {K : PUnit.{1} → Prog (TpuEff nD τ sig (Elt F) Λ₀ .tc) α} {f : S128x4096.Idx → Elt F .fp8e4m3} :
    iprop(Rec m ρ ∗ rowPts c c (X m ρ c) ∗ colPts c c f ∗ dutyTok ER (recvCell c c) 0 0)
      ⊢ iprop((cred (tallyAt (recvCell c c) () N) -∗ Wp (F := F) c (K PUnit.unit) Q) -∗ Wp (F := F) c (.op (.enqueueDma (xM.slice (Rect.unit (s := S4096x128) o₁ S128x128.size hb₁) hx₁)
          (.here (gM.slice (Rect.unit (s := S128x4096) o₂ S128x128.size hb₂) hx₂)) (.dma s) hsrc hdst hsem) K) Q) := by
  subst e₁ e₂ es
  iintro ⟨HRec, Hh, Hv, Ht⟩ Hk
  ihave HRa := (Rec_at m ρ (recv_mem c c)) $$ HRec
  icases HRa with ⟨⟨%κ, HI⟩, Hr⟩
  unfold rowPts colPts
  iapply (Rounds.wp_copy_pointsTo 𝒱₀ ER (Rd m ρ) (c : Thread nD τ) none (κ := κ) (r := 0) (d := 0) (fd := f)
    (by rw [duties_recv]; exact Finset.mem_singleton_self _) () N (amount_colM c _) (amount_recv m ρ c c 0)
    (by
      rw [payload_recv]; unfold recvPay ownRow rowPts colPts
      rw [if_pos rfl, pointsTo_congr (col_written m ρ c c f)])) $$ [HI Hh Hv Ht Hr]
  · isplitl [HI]; · iexact HI
    isplitl [Hh]; · iexact Hh
    isplitl [Hv]; · iexact Hv
    isplitl [Ht] <;> iassumption
  iexact Hk

end Steps

end Cert.A2A

end
-- ==== Proof.Blocks.lean ====
/-
The blocks of the two communication buffers, and sums over the devices written as sums over block numbers.
-/
module

public import proofs.«01_k».proof.Proof.Steps
public import Idealize.SL.BI.BigOpNat
public import Idealize.ShloMosaic.Lib.Pipeline.ValueKit.Geometry

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over the devices -/

section Sums
omit [FloatOps F]

theorem over_image {s : Finset ℕ} {t : Finset (Dev nD)} (f : ℕ → Dev nD) (hi : ∀ i ∈ s, ∀ j ∈ s, f i = f j → i = j) (ht : s.image f = t)
    (Φ : Dev nD → sProp 𝕄) : bigSep t Φ = bigSep s fun i => Φ (f i) := by
  subst ht
  exact Finset.fold_image hi

/-- A sum over the devices, by number. -/
theorem over_devs (Φ : Dev nD → sProp 𝕄) : bigSep Finset.univ Φ = bigSep (Finset.Ico 0 32) fun j => Φ (dv j) :=
  over_image dv (by decide +kernel) (by decide +kernel) Φ

/-- A sum over the devices other than `c`, by how far they are from `c`. -/
theorem over_others (c : Dev nD) (Φ : Dev nD → sProp 𝕄) : bigSep (Finset.univ.erase c) Φ = bigSep (Finset.Ico 1 32) fun k => Φ (dv (c.val + k)) :=
  over_image (fun k => dv (c.val + k)) (by revert c; decide +kernel) (by revert c; decide +kernel) Φ

end Sums

/-! ## Blocks -/

section Blk
variable (c d : Dev nD)
omit [FloatOps F]

theorem col_mem (x : S128x4096.Idx) : x ∈ (colM d).view.set ↔ (x 1).val / 128 = d.val := by
  have e : (colM d).view.set = (colR d).set := View.set_slice_whole _ _
  rw [e, Rect.mem_set_unit]
  have h0 : (x 0).val < 128 := (x 0).isLt
  constructor
  · intro h
    have := h 1
    have h1 : 128 * d.val ≤ (x 1).val ∧ (x 1).val < 128 * d.val + 128 := this
    omega
  · intro h a
    match a with
    | 0 => exact ⟨Nat.zero_le _, show (x 0).val < 0 + 128 by omega⟩
    | 1 => exact ⟨show 128 * d.val ≤ (x 1).val by omega, show (x 1).val < 128 * d.val + 128 by omega⟩

theorem row_mem (x : S4096x128.Idx) : x ∈ (rowM d).view.set ↔ (x 0).val / 128 = d.val := by
  have e : (rowM d).view.set = (rowR d).set := View.set_slice_whole _ _
  rw [e, Rect.mem_set_unit]
  have h0 : (x 1).val < 128 := (x 1).isLt
  constructor
  · intro h
    have := h 0
    have h1 : 128 * d.val ≤ (x 0).val ∧ (x 0).val < 128 * d.val + 128 := this
    omega
  · intro h a
    match a with
    | 0 => exact ⟨show 128 * d.val ≤ (x 0).val by omega, show (x 0).val < 128 * d.val + 128 by omega⟩
    | 1 => exact ⟨Nat.zero_le _, show (x 1).val < 0 + 128 by omega⟩

theorem col_disjoint {d d' : Dev nD} (h : d ≠ d') : Disjoint (colM d).view.set (colM d').view.set :=
  Finset.disjoint_left.mpr fun x hx hx' => h (Fin.ext (((col_mem d x).mp hx).symm.trans ((col_mem d' x).mp hx')))
theorem row_disjoint {d d' : Dev nD} (h : d ≠ d') : Disjoint (rowM d).view.set (rowM d').view.set :=
  Finset.disjoint_left.mpr fun x hx hx' => h (Fin.ext (((row_mem d x).mp hx).symm.trans ((row_mem d' x).mp hx')))

/-- Buffer `b` of device `c`, held whole. -/
abbrev pt (c : Dev nD) (b : Ref sig .tc) (f : b.ty.Contents (Elt F)) : sProp 𝕄 := ((c : Thread nD τ).loc b) ↦{fullShare} (f : Buf (Elt F) ((c : Thread nD τ).loc b))

/-- The gathering buffer is its 32 column blocks; -/
theorem cols_whole (g : S128x4096.Idx → Elt F .fp8e4m3) : pt c cc0_scratch1 g = bigSep Finset.univ fun d => colPts c d g := by
  have hc : (Finset.univ.biUnion fun d : Dev nD => (colM d).view.set) = (Finset.univ : Finset S128x4096.Idx) := by
    ext x
    have h1 : (x 1).val < 4096 := (x 1).isLt
    simp only [Finset.mem_biUnion, Finset.mem_univ, true_and, iff_true]
    exact ⟨dv ((x 1).val / 128), (col_mem _ x).mpr (by rw [dv_val]; omega)⟩
  have := pointsTo_biUnion (Ix := Unit) (Name := ℕ) (U := UU) (Lvl := ℕ) (ℓ := (c : Thread nD τ).loc cc0_scratch1) (q := fullShare) (f := g)
    Finset.univ (fun d : Dev nD => (colM d).view.set) fun _ _ _ _ h => col_disjoint h
  unfold colPts
  refine Eq.trans ?_ this
  exact congrArg (fun I => ((c : Thread nD τ).loc cc0_scratch1) ↦[I]{fullShare} g) hc.symm

/-- the blocks copied from are its 32 row blocks; -/
theorem rows_whole (g : S4096x128.Idx → Elt F .fp8e4m3) : pt c cc0_scratch0 g = bigSep Finset.univ fun d => rowPts c d g := by
  have hc : (Finset.univ.biUnion fun d : Dev nD => (rowM d).view.set) = (Finset.univ : Finset S4096x128.Idx) := by
    ext x
    have h1 : (x 0).val < 4096 := (x 0).isLt
    simp only [Finset.mem_biUnion, Finset.mem_univ, true_and, iff_true]
    exact ⟨dv ((x 0).val / 128), (row_mem _ x).mpr (by rw [dv_val]; omega)⟩
  have := pointsTo_biUnion (Ix := Unit) (Name := ℕ) (U := UU) (Lvl := ℕ) (ℓ := (c : Thread nD τ).loc cc0_scratch0) (q := fullShare) (f := g)
    Finset.univ (fun d : Dev nD => (rowM d).view.set) fun _ _ _ _ h => row_disjoint h
  unfold rowPts
  refine Eq.trans ?_ this
  exact congrArg (fun I => ((c : Thread nD τ).loc cc0_scratch0) ↦[I]{fullShare} g) hc.symm

/-- The first `n` column blocks of the gathering buffer. -/
def colsTo (n : ℕ) : Finset S128x4096.Idx := (Finset.Ico 0 n).biUnion fun j => (colM (dv j)).view.set

/-- and its first `n` column blocks are one set of elements, -/
theorem cols_upto {n : ℕ} (hn : n ≤ 32) (g : S128x4096.Idx → Elt F .fp8e4m3) :
    (bigSep (Finset.Ico 0 n) fun j => colPts c (dv j) g) = ((gM.view.loc (c : Thread nD τ)) ↦[colsTo n]{fullShare} (g : Buf (Elt F) (gM.view.loc (c : Thread nD τ)))) := by
  unfold colPts colsTo
  refine (pointsTo_biUnion (Ix := Unit) (Name := ℕ) (U := UU) (Lvl := ℕ) (ℓ := gM.view.loc (c : Thread nD τ)) (q := fullShare) (f := g)
    (Finset.Ico 0 n) (fun j : ℕ => (colM (dv j)).view.set) fun i hi j hj h => col_disjoint fun e => h ?_).symm
  have := congrArg Fin.val e
  rw [dv_val, dv_val] at this
  have := (Finset.mem_Ico.mp hi).2
  have := (Finset.mem_Ico.mp hj).2
  omega

/-- those whose column is below `128·n`. -/
theorem mem_colsTo {n : ℕ} (hn : n ≤ 32) {x : S128x4096.Idx} (h : (x 1).val < 128 * n) : x ∈ colsTo n := by
  unfold colsTo
  refine Finset.mem_biUnion.mpr ⟨(x 1).val / 128, Finset.mem_Ico.mpr ⟨Nat.zero_le _, by omega⟩, (col_mem _ x).mpr ?_⟩
  rw [dv_val]; omega

end Blk

end Cert.A2A

end
-- ==== Proof.Body.lean ====
/-
One device of the all-to-all, from its first signal to its last wait: the resources regrouped between its phases, and
the run through the printed body.
-/
module

public import proofs.«01_k».proof.Proof.Blocks
public import Idealize.SL.BI.BigOpNat
public import Idealize.ShloMosaic.Lib.Pipeline.ValueKit.Geometry

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Regroup
variable (c : Dev nD)

omit [FloatOps F] in
/-- A sum over the devices, device `c`'s term apart. -/
theorem apart (Φ : Dev nD → sProp 𝕄) : bigSep Finset.univ Φ = iprop(Φ c ∗ bigSep (Finset.univ.erase c) Φ) := bigSep_erase (Finset.mem_univ c)

/-- Before the signals: a column block for every other device, with the duty of signalling it. -/
theorem before_signals (f : S128x4096.Idx → Elt F .fp8e4m3) :
    iprop(bigSep Finset.univ (fun i => dutyTok ER (barCell i) 0 c) ∗ pt c cc0_scratch1 f)
      ⊢ iprop((bigSep (Finset.Ico 0 32) fun j => if dv j = c then iprop(emp) else barGive (F := F) c (dv j)) ∗ colPts c c f) := by
  rw [cols_whole, ← over_devs (fun d => if d = c then iprop(emp) else barGive (F := F) c d),
    apart c (fun d => if d = c then iprop(emp) else barGive (F := F) c d),
    apart c (fun d => colPts c d f), apart c (fun i => dutyTok ER (barCell i) 0 c), if_pos rfl]
  have h : iprop(bigSep (Finset.univ.erase c) (fun i => dutyTok ER (barCell i) 0 c) ∗ bigSep (Finset.univ.erase c) (fun d => colPts c d f))
      ⊢ bigSep (Finset.univ.erase c) (fun d => if d = c then iprop(emp) else barGive (F := F) c d) := by
    rw [← bigSep_sep']
    have hd (d : Dev nD) (hd : d ≠ c) : iprop(dutyTok ER (barCell d) 0 c ∗ colPts c d f) ⊢ if d = c then iprop(emp) else barGive (F := F) c d := by
      rw [if_neg hd]
      unfold barGive barPay
      iintro ⟨H, Hc⟩
      isplitl [H]; · iexact H
      iexists f; iexact Hc
    exact bigSep_mono fun d h => hd d (Finset.ne_of_mem_erase h)
  iintro ⟨⟨-, Ht⟩, ⟨Hc, Hr⟩⟩
  isplitr [Hc]
  · isplitr; · iempintro
    iapply h; isplitl [Ht] <;> iassumption
  iexact Hc

/-- Before the transfers: the device's own block apart, and for every other device its row block, the column block the
    device signalled for, and the two duties. -/
theorem before_sends :
    iprop(bigSep Finset.univ (fun i => dutyTok ER (recvCell i c) 0 0) ∗ bigSep Finset.univ (fun k => dutyTok ER (sendCell c k) 0 0)
        ∗ pt c cc0_scratch0 (X m ρ c) ∗ bigSep (Finset.univ.erase c) (fun d => barPay (F := F) c d))
      ⊢ iprop(dutyTok ER (recvCell c c) 0 0 ∗ rowPts c c (X m ρ c) ∗ bigSep (Finset.Ico 1 32) (sndNeed m ρ c)) := by
  rw [rows_whole, apart c (fun d => rowPts c d (X m ρ c)), apart c (fun i => dutyTok ER (recvCell i c) 0 0),
    over_others c (fun d => rowPts c d (X m ρ c)), over_others c (fun i => dutyTok ER (recvCell i c) 0 0), over_others c (fun d => barPay (F := F) c d),
    over_devs (fun k => dutyTok ER (sendCell c k) 0 0), bigSep_Ico_succ_bot (show 0 < 32 by decide)]
  unfold sndNeed
  simp only [bigSep_sep']
  iintro ⟨⟨Ho, Hr⟩, ⟨-, Hs⟩, ⟨Hx, Hxs⟩, Hb⟩
  isplitl [Ho]; · iexact Ho
  isplitl [Hx]; · iexact Hx
  isplitl [Hs]; · iexact Hs
  isplitl [Hr]; · iexact Hr
  isplitl [Hxs] <;> iassumption

/-- Before the waits for blocks. -/
theorem before_receives :
    iprop(bigSep (Finset.univ.erase c) (fun j => cred (tallyAt (recvCell c j) () N)) ∗ cred (tallyAt (recvCell c c) () N)
        ∗ bigSep Finset.univ (fun j => atPos ER (recvCell c j) 0 ∅ 0))
      ⊢ (bigSep (Finset.Ico 0 32) (rcvDue c) : sProp 𝕄) := by
  unfold rcvDue
  rw [bigSep_sep', ← over_devs (fun j => cred (tallyAt (recvCell c j) () N)), ← over_devs (fun j => atPos ER (recvCell c j) 0 ∅ 0),
    apart c (fun j => cred (tallyAt (recvCell c j) () N))]
  iintro ⟨H1, H2, H3⟩
  isplitr [H3]
  · isplitl [H2] <;> iassumption
  iexact H3

/-- Before the waits for the transfers out; the send semaphore of the transfer not made stays apart. -/
theorem before_sends_left :
    iprop(bigSep (Finset.Ico 1 32) (fun j => cred (tallyAt (sendCell c (dv j)) () N)) ∗ bigSep Finset.univ (fun k => atPos ER (sendCell c k) 0 ∅ 0))
      ⊢ (iprop(bigSep (Finset.Ico 1 32) (sndDue c) ∗ atPos ER (sendCell c 0) 0 ∅ 0) : sProp 𝕄) := by
  unfold sndDue
  rw [bigSep_sep', over_devs (fun k => atPos ER (sendCell c k) 0 ∅ 0), bigSep_Ico_succ_bot (show 0 < 32 by decide)]
  iintro ⟨H1, ⟨H0, H2⟩⟩
  isplitr [H0]
  · isplitl [H1] <;> iassumption
  iexact H0

/-- The receive semaphores at zero, the gathering buffer whole, and the own row block. -/
theorem after_receives :
    bigSep (Finset.Ico 0 32) (rcvGot m ρ c)
      ⊢ iprop(bigSep Finset.univ (fun j => semVal (recvCell c j) 0) ∗ pt c cc0_scratch1 (gath m ρ c) ∗ rowPts c c (X m ρ c)) := by
  unfold rcvGot recvPay
  rw [bigSep_sep', bigSep_sep', ← over_devs (fun j => semVal (recvCell c j) 0), ← over_devs (fun j => colPts c j (gath m ρ c)), ← cols_whole,
    ← over_devs (fun j => ownRow m ρ c j)]
  have h : bigSep Finset.univ (fun j => ownRow m ρ c j) ⊢ rowPts c c (X m ρ c) :=
    (bigSep_elim (Finset.mem_univ c)).trans (by unfold ownRow; rw [if_pos rfl]; exact BI.Entails.refl _)
  iintro ⟨H1, H2, H3⟩
  isplitl [H1]; · iexact H1
  isplitl [H2]; · iexact H2
  iapply h; iexact H3

/-- The send semaphores at zero and the buffer sent from whole. -/
theorem after_sends :
    iprop(bigSep (Finset.Ico 1 32) (sndGot m ρ c) ∗ semVal (sendCell c 0) 0 ∗ rowPts c c (X m ρ c))
      ⊢ iprop(bigSep Finset.univ (fun k => semVal (sendCell c k) 0) ∗ pt c cc0_scratch0 (X m ρ c)) := by
  have e : bigSep (Finset.Ico 1 32) (fun k => sendPay m ρ c (dv k)) = bigSep (Finset.Ico 1 32) (fun k => rowPts c (dv (c.val + k)) (X m ρ c)) :=
    bigSep_congr fun k hk => by unfold sendPay; rw [dv_val, Nat.mod_eq_of_lt (Finset.mem_Ico.mp hk).2]
  unfold sndGot
  rw [bigSep_sep', e, rows_whole, apart c (fun d => rowPts c d (X m ρ c)), over_others c (fun d => rowPts c d (X m ρ c)),
    over_devs (fun k => semVal (sendCell c k) 0), bigSep_Ico_succ_bot (show 0 < 32 by decide)]
  iintro ⟨⟨H1, H2⟩, H0, H3⟩
  isplitl [H0 H1]
  · isplitl [H0]; · iexact H0
    iexact H1
  isplitl [H3] <;> iassumption

end Regroup

end Cert.A2A

end
-- ==== Proof.Signals.lean ====
/-
The kernel's first stretch run: the weight copy started, the block of `x` laid out, and the 32 conditional signals.
-/
module

public import proofs.«01_k».proof.Proof.Body
public import Idealize.SL.BI.BigOpNat
public import Idealize.ShloMosaic.Lib.Pipeline.ValueKit.Geometry

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A part of the kernel at the buffers and semaphores the launch gives it. -/
abbrev onBufs {β : Type _} (f : ∀ (arg0 : Memref sig .tc .vmem S4096x128 .fp8e4m3) (harg0 : arg0.IsWhole) (arg1 : Memref sig .tc .hbm S4096x2048 .f32) (harg1 : arg1.IsWhole) (arg2 : Memref sig .tc .smem S1 .f32) (harg2 : arg2.IsWhole) (arg3 : Memref sig .tc .smem S1 .f32) (harg3 : arg3.IsWhole) (arg4 : Memref sig .tc .vmem S128x2048 .f32) (harg4 : arg4.IsWhole) (arg5 : Memref sig .tc .vmem S4096x128 .fp8e4m3) (harg5 : arg5.IsWhole) (arg6 : Memref sig .tc .vmem S128x4096 .fp8e4m3) (harg6 : arg6.IsWhole) (arg7 : Memref sig .tc .vmem S4096x2048 .f32) (harg7 : arg7.IsWhole) (arg8 : Memref sig .tc .vmem S4096x2048 .fp8e4m3) (harg8 : arg8.IsWhole) (arg9 : DmaSems sig S32) (arg10 : DmaSems sig S32) (arg11 : DmaSems sig S1), β) : β :=
  f (Memref.whole cc0_stg0_0) (Memref.isWhole_whole _) (Memref.whole main_arg1) (Memref.isWhole_whole _)
    (Memref.whole cc0_stg1_0) (Memref.isWhole_whole _) (Memref.whole cc0_stg2_0) (Memref.isWhole_whole _)
    (Memref.whole cc0_stg3_0) (Memref.isWhole_whole _)
    (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6

section Signals
variable (c : Dev nD)

theorem hz : (![0, 0] : Fin 2 → Nat) = fun _ => 0 := funext fun a => by fin_cases a <;> rfl

theorem rec_of_sig (i : ℕ) : Sig m ρ c i ⊢ iprop(Rec m ρ ∗ Sig m ρ c i) := by
  unfold Sig
  iintro ⟨#H, H'⟩
  isplitr; · iexact H
  isplitr; · iexact H
  iexact H'

abbrev rX : Rect S4096x128 := Rect.unit (s := S4096x128) ![0, 0] S4096x128.size inb_S4096x128_S4096x128_0_0

theorem read_x (f : S4096x128.Idx → Elt F .fp8e4m3) :
    (Memref.whole cc0_stg0_0 : Memref sig .tc .vmem S4096x128 .fp8e4m3).view.readAt (Elt F) rX.toLoadRect f = f :=
  Memref.readAt_unit_zero (Elt F) cc0_stg0_0 hz _ f
theorem write_x (f w : S4096x128.Idx → Elt F .fp8e4m3) : ((xM.access rX : View sig .tc _ _ _).write (Elt F) f w Finset.univ) = w :=
  Memref.write_access_unit_zero_univ (Elt F) cc0_scratch0 hz _ f w

/-- The stretch before the signals. -/
theorem head_step {R : sProp 𝕄} {α : Type} {Q : α → sProp 𝕄} {s : DmaSem sig} (es : s = wS) {hsrc : wHbm.view.WordExact} {hdst : wVmem.view.WordExact}
    {hsem : DmaTarget.Typed (nD := nD) .hbm (.dma s) (DmaTarget.here (p := (.tc : Proc τ)) wVmem)}
    {x : S4096x128.Idx → Elt F .fp8e4m3} {f₀ : S4096x128.Idx → Elt F .fp8e4m3} {f₂ : S4096x2048.Idx → Elt F .f32}
    {hl₁ : (Memref.whole cc0_stg0_0 : Memref sig .tc .vmem S4096x128 .fp8e4m3).view.LoadsAt rX.toLoadRect} {hl₂ : xM.view.LoadsAt rX.toLoadRect}
    {hst : (xM.access rX).Stores Finset.univ} {hm : (Finset.univ : Finset rX.shape.Idx) = Finset.univ ∨ _}
    {k : Dev nD → Prog (TpuEff nD τ sig (Elt F) Λ₀ .tc) α}
    (h : iprop((R ∗ cred (tallyAt (wCell c) () NW) ∗ pt c cc0_stg0_0 x ∗ pt c cc0_scratch0 (k0_pay1 x)) ∗ Sig m ρ c 0) ⊢ Wp (F := F) c (k c) Q) :
    iprop((R ∗ hbmPts c (Wt m ρ c) ∗ vmemPts c f₂ ∗ dutyTok ER (wCell c) 0 0 ∗ pt c cc0_stg0_0 x ∗ pt c cc0_scratch0 f₀) ∗ Sig m ρ c 0)
      ⊢ Wp (F := F) c (.op .deviceId fun d => .op (.enqueueDma wHbm (.here wVmem) (.dma s) hsrc hdst hsem) fun _ =>
          .op (.load (Memref.whole cc0_stg0_0 : Memref sig .tc .vmem S4096x128 .fp8e4m3) rX.toLoadRect hl₁) fun v =>
          .op (.load xM rX.toLoadRect hl₂) fun _ => .op (.store xM rX (k0_pay1 v) Finset.univ hst hm) fun _ => k d) Q := by
  iintro ⟨⟨HR, Hh, Hv, Htok, Hx, H0⟩, HS⟩
  ihave HS' := (rec_of_sig m ρ c 0) $$ HS
  icases HS' with ⟨#HRec, HS⟩
  simp only [Wp, wp_deviceId]
  iapply (w_copy m ρ c es) $$ [Hh Hv Htok]
  · isplitr; · iexact HRec
    isplitl [Hh]; · iexact Hh
    isplitl [Hv] <;> iassumption
  iintro Hc
  iapply (wp_load 𝒱₀ (c : Thread nD τ) none Set.univ (m := (Memref.whole cc0_stg0_0 : Memref sig .tc .vmem S4096x128 .fp8e4m3)) (Finset.subset_univ _)) $$ Hx; iintro Hx
  rw [read_x]
  iapply (wp_load 𝒱₀ (c : Thread nD τ) none Set.univ (m := xM) (Finset.subset_univ _)) $$ H0; iintro H0
  iapply (wp_store 𝒱₀ (c : Thread nD τ) none Set.univ (m := xM) (r := rX) (Mk := Finset.univ) (Finset.subset_univ _)) $$ H0; iintro H0
  rw [write_x]
  iapply h
  isplitr [HS]
  · isplitl [HR]; · iexact HR
    isplitl [Hc]; · iexact Hc
    isplitl [Hx] <;> iassumption
  iexact HS

attribute [local irreducible] k0_cond1 k0_cond2 k0_cond3 k0_cond4 k0_cond5 k0_cond6 k0_cond7 k0_cond8 k0_cond9 k0_cond10 k0_cond11 k0_cond12
  k0_cond13 k0_cond14 k0_cond15 k0_cond16 k0_cond17 k0_cond18 k0_cond19 k0_cond20 k0_cond21 k0_cond22 k0_cond23 k0_cond24 k0_cond25 k0_cond26
  k0_cond27 k0_cond28 k0_cond29 k0_cond30 k0_cond31 k0_cond32

theorem part1_run {R : sProp 𝕄} {α : Type} {Q : α → sProp 𝕄} {x f₀ : S4096x128.Idx → Elt F .fp8e4m3} {f₂ : S4096x2048.Idx → Elt F .f32}
    {K : (Σ' (d0 : Dev nD) (v2 : BitVec 32) (v10 : Sems sig S_), BitVec 32) → Prog (TpuEff nD τ sig (Elt F) Λ₀ .tc) α}
    (h : ∀ v2 v30, iprop((R ∗ cred (tallyAt (wCell c) () NW) ∗ pt c cc0_stg0_0 x ∗ pt c cc0_scratch0 (k0_pay1 x)) ∗ Sig m ρ c 6)
      ⊢ Wp (F := F) c (K ⟨c, v2, SemArray.scalar (sig.barrier 0 rfl), v30⟩) Q) :
    iprop((R ∗ hbmPts c (Wt m ρ c) ∗ vmemPts c f₂ ∗ dutyTok ER (wCell c) 0 0 ∗ pt c cc0_stg0_0 x ∗ pt c cc0_scratch0 f₀) ∗ Sig m ρ c 0)
      ⊢ Wp (F := F) c (onBufs (k0_part1 (F := F)) >>= K) Q := by
  simp only [k0_part1_eq_skeleton]; unfold k0_part1_skel
  simp (config := {zeta := false}) only [Prog.lift, Prog.bind_op, Prog.bind_ret]
  refine head_step m ρ c (by decide) ?_
  iterate 6 refine sig_step m ρ c (by decide) (by decide +kernel) (by decide +kernel) ?_
  exact h _ _

theorem part2_run {R : sProp 𝕄} {α : Type} {Q : α → sProp 𝕄} {v2 v30 : BitVec 32} {K : BitVec 32 → Prog (TpuEff nD τ sig (Elt F) Λ₀ .tc) α}
    (h : ∀ v, iprop(R ∗ Sig m ρ c 16) ⊢ Wp (F := F) c (K v) Q) :
    iprop(R ∗ Sig m ρ c 6) ⊢ Wp (F := F) c (onBufs (k0_part2 (F := F)) c v2 (SemArray.scalar (sig.barrier 0 rfl)) v30 >>= K) Q := by
  simp only [k0_part2_eq_skeleton]; unfold k0_part2_skel
  iterate 10 refine sig_step m ρ c (by decide) (by decide +kernel) (by decide +kernel) ?_
  exact h _

theorem part3_run {R : sProp 𝕄} {α : Type} {Q : α → sProp 𝕄} {v2 v60 : BitVec 32} {K : BitVec 32 → Prog (TpuEff nD τ sig (Elt F) Λ₀ .tc) α}
    (h : ∀ v, iprop(R ∗ Sig m ρ c 26) ⊢ Wp (F := F) c (K v) Q) :
    iprop(R ∗ Sig m ρ c 16) ⊢ Wp (F := F) c (onBufs (k0_part3 (F := F)) c v2 (SemArray.scalar (sig.barrier 0 rfl)) v60 >>= K) Q := by
  simp only [k0_part3_eq_skeleton]; unfold k0_part3_skel
  iterate 10 refine sig_step m ρ c (by decide) (by decide +kernel) (by decide +kernel) ?_
  exact h _

/-- The last signals, the wait for the others', and the local copy started. -/
theorem part4_run {R : sProp 𝕄} {α : Type} {Q : α → sProp 𝕄} {v2 v90 : BitVec 32} {K : PUnit.{1} → Prog (TpuEff nD τ sig (Elt F) Λ₀ .tc) α}
    {f₁ : S128x4096.Idx → Elt F .fp8e4m3}
    (h : iprop(((R ∗ semVal (barCell c) 0 ∗ cred (tallyAt (recvCell c c) () N))) ∗ Snd m ρ c 1) ⊢ Wp (F := F) c (K PUnit.unit) Q) :
    iprop((((R ∗ pt c cc0_scratch0 (X m ρ c) ∗ colPts c c f₁ ∗ bigSep Finset.univ (fun i => dutyTok ER (recvCell i c) 0 0)
        ∗ bigSep Finset.univ (fun k => dutyTok ER (sendCell c k) 0 0)) ∗ levAts L lv ∗ cred (tallyAt (barCell c) () 31) ∗ atPos ER (barCell c) 0 ∅ 0)) ∗ Sig m ρ c 26)
      ⊢ Wp (F := F) c (onBufs (k0_part4 (F := F)) c v2 (SemArray.scalar (sig.barrier 0 rfl)) v90 >>= K) Q := by
  simp only [k0_part4_eq_skeleton]; unfold k0_part4_skel
  iterate 6 refine sig_step m ρ c (by decide) (by decide +kernel) (by decide +kernel) ?_
  refine bar_wait m ρ c ?_
  iintro ⟨⟨HR, Hx, Hg, Hrt, Hst⟩, #HRec, HO, Hbar, Hpay⟩
  ihave Hs := (before_sends m ρ c) $$ [Hx Hrt Hst Hpay]
  · isplitl [Hrt]; · iexact Hrt
    isplitl [Hst]; · iexact Hst
    isplitl [Hx] <;> iassumption
  icases Hs with ⟨Htok, Hrow, Hneed⟩
  iapply (own_copy m ρ c (off3_eq c) (off2_eq c) (own_recv c)) $$ [Hrow Hg Htok]
  · isplitr; · iexact HRec
    isplitl [Hrow]; · iexact Hrow
    isplitl [Hg] <;> iassumption
  iintro Hc
  iapply h
  isplitl [HR Hbar Hc]
  · isplitl [HR]; · iexact HR
    isplitl [Hbar] <;> iassumption
  unfold Snd
  isplitr; · iexact HRec
  isplitl [HO]; · iexact HO
  isplitl [Hneed]; · iexact Hneed
  rw [Finset.Ico_self, bigSep_empty]
  iempintro

end Signals

end Cert.A2A

end
-- ==== Proof.Run.lean ====
/-
The kernel run to its end on one device, from what the launch hands it to the result in its staging buffer.
-/
module

public import proofs.«01_k».proof.Proof.Signals
public import Idealize.SL.BI.BigOpNat
public import Idealize.ShloMosaic.Lib.Pipeline.ValueKit.Geometry

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Run
variable (c : Dev nD)

/-! ## What the device holds before and after -/

abbrev r1 : Rect S1 := Rect.unit (s := S1) ![0] S1.size inb_S1_S1_0
abbrev rW : Rect S4096x2048 := Rect.unit (s := S4096x2048) ![0, 0] S4096x2048.size inb_S4096x2048_S4096x2048_0_0
abbrev rO : Rect S128x2048 := Rect.unit (s := S128x2048) ![0, 0] S128x2048.size inb_S128x2048_S128x2048_0_0
/-- The two halves of the gathered rows' columns, and of the weight matrix's rows. -/
abbrev rGlo : Rect S128x4096 := Rect.unit (s := S128x4096) ![0, 0] S128x2048.size inb_S128x4096_S128x2048_0_0
abbrev rGhi : Rect S128x4096 := Rect.unit (s := S128x4096) ![0, 2048] S128x2048.size inb_S128x4096_S128x2048_0_2048
abbrev rWlo : Rect S4096x2048 := Rect.unit (s := S4096x2048) ![0, 0] S2048x2048.size inb_S4096x2048_S2048x2048_0_0
abbrev rWhi : Rect S4096x2048 := Rect.unit (s := S4096x2048) ![2048, 0] S2048x2048.size inb_S4096x2048_S2048x2048_2048_0

abbrev s1M : Memref sig .tc .smem S1 .f32 := Memref.whole cc0_stg1_0
abbrev s2M : Memref sig .tc .smem S1 .f32 := Memref.whole cc0_stg2_0
abbrev oM : Memref sig .tc .vmem S128x2048 .f32 := Memref.whole cc0_stg3_0
abbrev w8M : Memref sig .tc .vmem S4096x2048 .fp8e4m3 := Memref.whole cc0_scratch3

/-- The scales as the staging buffers hold them. -/
def sx : (cc0_stg1_0 : Ref sig .tc).ty.Contents (Elt F) := (win0_1.blk (0 : Fin 1)).view.read (Elt F) ((s₀ m ρ).mem ((c : Thread nD τ).loc main_arg2))
def sw : (cc0_stg2_0 : Ref sig .tc).ty.Contents (Elt F) := (win0_2.blk (0 : Fin 1)).view.read (Elt F) ((s₀ m ρ).mem ((c : Thread nD τ).loc main_arg3))

def first (f : S1.Idx → Elt F .f32) : Elt F .f32 := f (Shape.Idx.first (numel1_S1.symm ▸ Nat.one_pos))

/-- The first half's product, and the result. -/
def accLo : FVec F S128x2048 .f32 :=
  k0_pay3 ((gM.access rGlo).read (Elt F) (gath m ρ c)) ((w8M.access rWlo).read (Elt F) (k0_pay2 (Wt m ρ c)))
def accHi : FVec F S128x2048 .f32 :=
  k0_pay4 (accLo m ρ c) ((gM.access rGhi).read (Elt F) (gath m ρ c)) ((w8M.access rWhi).read (Elt F) (k0_pay2 (Wt m ρ c)))
def outAt : S128x2048.Idx → Elt F .f32 := k0_pay5 (accHi m ρ c) (first (sx m ρ c)) (first (sw m ρ c))

def Toks : sProp 𝕄 :=
  iprop(bigSep Finset.univ (fun i => dutyTok ER (barCell i) 0 c) ∗ bigSep Finset.univ (fun i => dutyTok ER (recvCell i c) 0 0)
    ∗ bigSep Finset.univ (fun k => dutyTok ER (sendCell c k) 0 0) ∗ dutyTok ER (wCell c) 0 0)
def Creds : sProp 𝕄 :=
  iprop(cred (tallyAt (barCell c) () 31) ∗ bigSep (Finset.univ.erase c) fun j => cred (tallyAt (recvCell c j) () N))
def Places : sProp 𝕄 :=
  iprop(atPos ER (barCell c) 0 ∅ 0 ∗ bigSep Finset.univ (fun j => atPos ER (recvCell c j) 0 ∅ 0)
    ∗ bigSep Finset.univ (fun k => atPos ER (sendCell c k) 0 ∅ 0) ∗ atPos ER (wCell c) 0 ∅ 0)
/-- The launch's share of device `c`. -/
def Start : sProp 𝕄 := iprop(levAts L lv ∗ Rec m ρ ∗ Toks c ∗ Creds c ∗ Places c ∗ pt c main_arg1 (Wt m ρ c))
def Scratch : sProp 𝕄 :=
  iprop((∃ f, pt c cc0_scratch0 f) ∗ (∃ f, pt c cc0_scratch1 f) ∗ (∃ f, pt c cc0_scratch2 f) ∗ (∃ f, pt c cc0_scratch3 f))
def Closed : sProp 𝕄 :=
  iprop(semVal (barCell c) 0 ∗ bigSep Finset.univ (fun j => semVal (recvCell c j) 0) ∗ bigSep Finset.univ (fun k => semVal (sendCell c k) 0) ∗ semVal (wCell c) 0)
/-- What it ends with. -/
def End : sProp 𝕄 := iprop(Closed c ∗ pt c main_arg1 (Wt m ρ c) ∗ Scratch c)

theorem via {P P' : sProp 𝕄} {α : Type} {p : Prog (TpuEff nD τ sig (Elt F) Λ₀ .tc) α} {Q : α → sProp 𝕄} (h : P ⊢ P') (h' : P' ⊢ Wp (F := F) c p Q) : P ⊢ Wp (F := F) c p Q :=
  h.trans h'

/-! ## The stretches between the repeated ones -/

/-- The weight matrix's wait, its rounding, and the receive waits' beginning. -/
theorem mid_step {R : sProp 𝕄} {α : Type} {Q : α → sProp 𝕄} {s : DmaSem sig} (es : s = wS) {hsrc : wHbm.view.WordExact} {hdst : wVmem.view.WordExact}
    {f₃ : S4096x2048.Idx → Elt F .fp8e4m3} {hl₁ : wVmem.view.LoadsAt rW.toLoadRect} {hl₂ : w8M.view.LoadsAt rW.toLoadRect}
    {hst : (w8M.access rW).Stores Finset.univ} {hm : (Finset.univ : Finset rW.shape.Idx) = Finset.univ ∨ _}
    {k : Prog (TpuEff nD τ sig (Elt F) Λ₀ .tc) α}
    (h : iprop(((R ∗ bigSep (Finset.Ico 1 32) (fun j => cred (tallyAt (sendCell c (dv j)) () N)) ∗ semVal (wCell c) 0 ∗ wPay m ρ c) ∗ pt c cc0_scratch3 (k0_pay2 (Wt m ρ c)))
      ∗ Rcv m ρ c 0) ⊢ Wp (F := F) c k Q) :
    iprop((R ∗ cred (tallyAt (wCell c) () NW) ∗ atPos ER (wCell c) 0 ∅ 0 ∗ bigSep (Finset.univ.erase c) (fun j => cred (tallyAt (recvCell c j) () N))
        ∗ cred (tallyAt (recvCell c c) () N) ∗ bigSep Finset.univ (fun j => atPos ER (recvCell c j) 0 ∅ 0) ∗ pt c cc0_scratch3 f₃) ∗ Snd m ρ c 32)
      ⊢ Wp (F := F) c (.op (.waitDma2 s wHbm wVmem hsrc hdst) fun _ => .op (.load wVmem rW.toLoadRect hl₁) fun v =>
          .op (.load w8M rW.toLoadRect hl₂) fun _ => .op (.store w8M rW (k0_pay2 v) Finset.univ hst hm) fun _ => k) Q := by
  subst es
  unfold Snd
  rw [Osend_end]
  iintro ⟨⟨HR, Hc, Hat, Hco, Hcc, Hpos, H3⟩, #HRec, HO, -, Hcs⟩
  iapply (wait_own m ρ c (s := wS) (show 4 ≤ 68 by decide) (expect_w m ρ c) (rest_w m ρ c) credit_w) $$ [HO Hc Hat]
  · isplitr; · iexact HRec
    isplitl [HO]; · iexact HO
    isplitl [Hc] <;> iassumption
  unfold wPay vmemPts
  iintro ⟨HO, Hsem, Hv, Hh⟩
  iapply (wp_load 𝒱₀ (c : Thread nD τ) none Set.univ (m := wVmem) (by rw [View.set_whole]; exact Finset.subset_univ _)) $$ Hv; iintro Hv
  rw [show wVmem.view.readAt (Elt F) rW.toLoadRect (Wt m ρ c) = Wt m ρ c from Memref.readAt_unit_zero (Elt F) cc0_scratch2 hz _ (Wt m ρ c)]
  iapply (wp_load 𝒱₀ (c : Thread nD τ) none Set.univ (m := w8M) (Finset.subset_univ _)) $$ H3; iintro H3
  iapply (wp_store 𝒱₀ (c : Thread nD τ) none Set.univ (m := w8M) (r := rW) (Mk := Finset.univ) (Finset.subset_univ _)) $$ H3; iintro H3
  rw [show ((w8M.access rW : View sig .tc _ _ _).write (Elt F) f₃ (k0_pay2 (Wt m ρ c)) Finset.univ) = k0_pay2 (Wt m ρ c) from
    Memref.write_access_unit_zero_univ (Elt F) cc0_scratch3 hz _ f₃ (k0_pay2 (Wt m ρ c))]
  iapply h
  ihave Hr := (before_receives c) $$ [Hco Hcc Hpos]
  · isplitl [Hco]; · iexact Hco
    isplitl [Hcc] <;> iassumption
  isplitr [HO Hr]
  · isplitr [H3]
    · isplitl [HR]; · iexact HR
      isplitl [Hcs]; · iexact Hcs
      isplitl [Hsem]; · iexact Hsem
      unfold wPay vmemPts
      isplitl [Hv] <;> iassumption
    iexact H3
  unfold Rcv
  isplitr; · iexact HRec
  isplitl [HO]; · iexact HO
  isplitl [Hr]; · iexact Hr
  rw [Finset.Ico_self, bigSep_empty]
  iempintro

theorem rcv_cols {n : ℕ} (hn : n ≤ 32) : bigSep (Finset.Ico 0 n) (rcvGot m ρ c)
    = iprop((bigSep (Finset.Ico 0 n) fun j => semVal (recvCell c (dv j)) 0)
      ∗ ((gM.view.loc (c : Thread nD τ)) ↦[colsTo n]{fullShare} (gath m ρ c : Buf (Elt F) (gM.view.loc (c : Thread nD τ))))
      ∗ bigSep (Finset.Ico 0 n) fun j => ownRow m ρ c (dv j)) := by
  unfold rcvGot recvPay
  rw [bigSep_sep', bigSep_sep', cols_upto c hn]

/-- The loads for a half's product, once its columns are received. -/
theorem half_step {R : sProp 𝕄} {α : Type} {Q : α → sProp 𝕄} {n : ℕ} (hn : n ≤ 32) {r : Rect S128x4096} (hr : r.set ⊆ colsTo n) {r' : Rect S4096x2048}
    {hl₁ : gM.view.LoadsAt r.toLoadRect} {hl₂ : w8M.view.LoadsAt r'.toLoadRect} {w8 : S4096x2048.Idx → Elt F .fp8e4m3}
    {k : (r.shape.Idx → Elt F .fp8e4m3) → (r'.shape.Idx → Elt F .fp8e4m3) → Prog (TpuEff nD τ sig (Elt F) Λ₀ .tc) α}
    (h : iprop((R ∗ pt c cc0_scratch3 w8) ∗ Rcv m ρ c n) ⊢ Wp (F := F) c (k ((gM.access r).read (Elt F) (gath m ρ c)) ((w8M.access r').read (Elt F) w8)) Q) :
    iprop((R ∗ pt c cc0_scratch3 w8) ∗ Rcv m ρ c n)
      ⊢ Wp (F := F) c (.op (.load gM r.toLoadRect hl₁) fun x => .op (.load w8M r'.toLoadRect hl₂) fun w => k x w) Q := by
  unfold Rcv at h ⊢
  rw [rcv_cols m ρ c hn] at h ⊢
  iintro ⟨⟨HR, H3⟩, #HRec, HO, Hd, Hs, Hg, Ho⟩
  iapply (wp_load_rect 𝒱₀ (c : Thread nD τ) none Set.univ (m := gM) (r := r) (by rw [show (gM.access r).set = r.set from View.set_slice_whole _ _]; exact hr)) $$ Hg
  iintro Hg
  iapply (wp_load_rect 𝒱₀ (c : Thread nD τ) none Set.univ (m := w8M) (r := r') (Finset.subset_univ _)) $$ H3
  iintro H3
  iapply h
  isplitl [HR H3]
  · isplitl [HR] <;> iassumption
  isplitr; · iexact HRec
  isplitl [HO]; · iexact HO
  isplitl [Hd]; · iexact Hd
  isplitl [Hs]; · iexact Hs
  isplitl [Hg] <;> iassumption

theorem lo_cols : rGlo.set ⊆ colsTo 16 := fun x hx => by
  rw [Rect.mem_set_unit] at hx
  have h : 0 ≤ (x 1).val ∧ (x 1).val < 0 + 2048 := hx 1
  exact mem_colsTo (by decide) (by omega)
theorem hi_cols : rGhi.set ⊆ colsTo 32 := fun x hx => by
  have h : (x 1).val < 4096 := (x 1).isLt
  exact mem_colsTo (by decide) (by omega)

theorem write_out (f w : S128x2048.Idx → Elt F .f32) : ((oM.access rO : View sig .tc _ _ _).write (Elt F) f w Finset.univ) = w :=
  Memref.write_access_unit_zero_univ (Elt F) cc0_stg3_0 hz _ f w

/-- The result stored, and the send waits' beginning. -/
theorem out_step {R : sProp 𝕄} {α : Type} {Q : α → sProp 𝕄} {a : FVec F S128x2048 .f32} {f₁ f₂ : S1.Idx → Elt F .f32} {f : S128x2048.Idx → Elt F .f32}
    {hl₁ : s1M.view.LoadsAt r1.toLoadRect} {hl₂ : s2M.view.LoadsAt r1.toLoadRect} {hl₃ : oM.view.LoadsAt rO.toLoadRect}
    {hst : (oM.access rO).Stores Finset.univ} {hm : (Finset.univ : Finset rO.shape.Idx) = Finset.univ ∨ _} {hi hi' : 0 < r1.shape.numel}
    {k : Prog (TpuEff nD τ sig (Elt F) Λ₀ .tc) α}
    (h : iprop((R ∗ pt c cc0_stg1_0 f₁ ∗ pt c cc0_stg2_0 f₂ ∗ pt c cc0_stg3_0 (k0_pay5 a (first f₁) (first f₂))
        ∗ bigSep Finset.univ (fun j => semVal (recvCell c j) 0) ∗ pt c cc0_scratch1 (gath m ρ c) ∗ rowPts c c (X m ρ c) ∗ atPos ER (sendCell c 0) 0 ∅ 0) ∗ Sw m ρ c 1)
      ⊢ Wp (F := F) c k Q) :
    iprop((R ∗ pt c cc0_stg1_0 f₁ ∗ pt c cc0_stg2_0 f₂ ∗ pt c cc0_stg3_0 f ∗ bigSep (Finset.Ico 1 32) (fun j => cred (tallyAt (sendCell c (dv j)) () N))
        ∗ bigSep Finset.univ (fun k => atPos ER (sendCell c k) 0 ∅ 0)) ∗ Rcv m ρ c 32)
      ⊢ Wp (F := F) c (.op (.load s1M r1.toLoadRect hl₁) fun x => .op (.load s2M r1.toLoadRect hl₂) fun y => .op (.load oM rO.toLoadRect hl₃) fun _ =>
          .op (.store oM rO (k0_pay5 a (x (Shape.Idx.first hi)) (y (Shape.Idx.first hi'))) Finset.univ hst hm) fun _ => k) Q := by
  have hz₁ : (![0] : Fin 1 → Nat) = fun _ => 0 := funext fun a => by fin_cases a; rfl
  unfold Rcv
  iintro ⟨⟨HR, H1, H2, Ho, Hcs, Hps⟩, #HRec, HO, -, Hgot⟩
  iapply (wp_load 𝒱₀ (c : Thread nD τ) none Set.univ (m := s1M) (Finset.subset_univ _)) $$ H1; iintro H1
  iapply (wp_load 𝒱₀ (c : Thread nD τ) none Set.univ (m := s2M) (Finset.subset_univ _)) $$ H2; iintro H2
  iapply (wp_load 𝒱₀ (c : Thread nD τ) none Set.univ (m := oM) (Finset.subset_univ _)) $$ Ho; iintro Ho
  rw [show s1M.view.readAt (Elt F) r1.toLoadRect f₁ = f₁ from Memref.readAt_unit_zero (Elt F) cc0_stg1_0 hz₁ _ f₁,
    show s2M.view.readAt (Elt F) r1.toLoadRect f₂ = f₂ from Memref.readAt_unit_zero (Elt F) cc0_stg2_0 hz₁ _ f₂]
  iapply (wp_store 𝒱₀ (c : Thread nD τ) none Set.univ (m := oM) (r := rO) (Mk := Finset.univ) (Finset.subset_univ _)) $$ Ho; iintro Ho
  rw [write_out]
  iapply h
  ihave Hr := (after_receives m ρ c) $$ Hgot
  icases Hr with ⟨Hsem, Hg, Hrow⟩
  ihave Hs := (before_sends_left c) $$ [Hcs Hps]
  · isplitl [Hcs] <;> iassumption
  icases Hs with ⟨Hdue, H0⟩
  isplitr [HO Hdue]
  · isplitl [HR]; · iexact HR
    isplitl [H1]; · iexact H1
    isplitl [H2]; · iexact H2
    isplitl [Ho]; · iexact Ho
    isplitl [Hsem]; · iexact Hsem
    isplitl [Hg]; · iexact Hg
    isplitl [Hrow] <;> iassumption
  unfold Sw
  isplitr; · iexact HRec
  isplitl [HO]; · iexact HO
  isplitl [Hdue]; · iexact Hdue
  rw [Finset.Ico_self, bigSep_empty]
  iempintro

/-- From the last send wait to the end. -/
theorem finish {x : S4096x128.Idx → Elt F .fp8e4m3} {f₁ f₂ : S1.Idx → Elt F .f32} {fo : S128x2048.Idx → Elt F .f32} {f₃ : S4096x2048.Idx → Elt F .fp8e4m3} {Q : PUnit.{1} → sProp 𝕄}
    (h : iprop(End m ρ c ∗ Ow c 0 ∗ pt c cc0_stg0_0 x ∗ pt c cc0_stg1_0 f₁ ∗ pt c cc0_stg2_0 f₂ ∗ pt c cc0_stg3_0 fo) ⊢ Q PUnit.unit) :
    iprop(((pt c cc0_stg0_0 x ∗ semVal (barCell c) 0 ∗ semVal (wCell c) 0 ∗ wPay m ρ c ∗ pt c cc0_scratch3 f₃) ∗ pt c cc0_stg1_0 f₁ ∗ pt c cc0_stg2_0 f₂ ∗ pt c cc0_stg3_0 fo
        ∗ bigSep Finset.univ (fun j => semVal (recvCell c j) 0) ∗ pt c cc0_scratch1 (gath m ρ c) ∗ rowPts c c (X m ρ c) ∗ atPos ER (sendCell c 0) 0 ∅ 0) ∗ Sw m ρ c 32)
      ⊢ Wp (F := F) c (.ret PUnit.unit) Q := by
  unfold Sw wPay
  simp only [Wp, wp_ret]
  iintro ⟨⟨⟨Hx, Hb, Hw, ⟨Hv, Hh⟩, H3⟩, H1, H2, Ho, Hr, Hg, Hrow, H0⟩, #HRec, HO, -, Hgot⟩
  ihave HI := (Rec_at m ρ (send_mem c 0)) $$ HRec
  icases HI with ⟨⟨%κ, #HI⟩, -⟩
  imod (Rounds.cell_close ER (Rd m ρ) (Set.mem_univ κ) (fun h => h) (R := 0) (duties_send0 m ρ c)) $$ [H0] with Hz
  · isplitr; · iexact HI
    iexact H0
  ihave Hs := (after_sends m ρ c) $$ [Hgot Hz Hrow]
  · isplitl [Hgot]; · iexact Hgot
    isplitl [Hz] <;> iassumption
  icases Hs with ⟨Hs, Hxs⟩
  imodintro
  iapply h
  isplitr [HO Hx H1 H2 Ho]
  · unfold End Closed Scratch
    isplitl [Hb Hr Hs Hw]
    · isplitl [Hb]; · iexact Hb
      isplitl [Hr]; · iexact Hr
      isplitl [Hs] <;> iassumption
    isplitl [Hh]
    · unfold hbmPts; rw [View.set_whole]; iexact Hh
    isplitl [Hxs]; · iexists _; iexact Hxs
    isplitl [Hg]; · iexists _; iexact Hg
    isplitl [Hv]
    · unfold vmemPts; rw [View.set_whole]; iexists _; iexact Hv
    iexists _; iexact H3
  isplitl [HO]; · iexact HO
  isplitl [Hx]; · iexact Hx
  isplitl [H1]; · iexact H1
  isplitl [H2] <;> iassumption

set_option maxRecDepth 65536 in
set_option maxHeartbeats 4000000 in
/-- The kernel on device `c`, start to end. -/
theorem body_run {f₀ : S4096x128.Idx → Elt F .fp8e4m3} {f₁ : S128x4096.Idx → Elt F .fp8e4m3} {f₂ : S4096x2048.Idx → Elt F .f32} {f₃ : S4096x2048.Idx → Elt F .fp8e4m3}
    {fo : S128x2048.Idx → Elt F .f32} {Q : PUnit.{1} → sProp 𝕄}
    (h : iprop(End m ρ c ∗ Ow c 0 ∗ pt c cc0_stg0_0 (xstg m ρ c) ∗ pt c cc0_stg1_0 (sx m ρ c) ∗ pt c cc0_stg2_0 (sw m ρ c) ∗ pt c cc0_stg3_0 (outAt m ρ c)) ⊢ Q PUnit.unit) :
    iprop(Start m ρ c ∗ (pt c cc0_scratch0 f₀ ∗ pt c cc0_scratch1 f₁ ∗ pt c cc0_scratch2 f₂ ∗ pt c cc0_scratch3 f₃) ∗ Ow c (O₀ c)
        ∗ pt c cc0_stg0_0 (xstg m ρ c) ∗ pt c cc0_stg1_0 (sx m ρ c) ∗ pt c cc0_stg2_0 (sw m ρ c) ∗ pt c cc0_stg3_0 fo)
      ⊢ Wp (F := F) c (onBufs (cc0_body (F := F))) Q := by
  refine via c (P' := iprop((((pt c cc0_stg1_0 (sx m ρ c) ∗ pt c cc0_stg2_0 (sw m ρ c) ∗ pt c cc0_stg3_0 fo ∗ pt c cc0_scratch3 f₃
        ∗ bigSep (Finset.univ.erase c) (fun j => cred (tallyAt (recvCell c j) () N)) ∗ bigSep Finset.univ (fun j => atPos ER (recvCell c j) 0 ∅ 0)
        ∗ bigSep Finset.univ (fun k => atPos ER (sendCell c k) 0 ∅ 0) ∗ atPos ER (wCell c) 0 ∅ 0)
      ∗ colPts c c f₁ ∗ bigSep Finset.univ (fun i => dutyTok ER (recvCell i c) 0 0) ∗ bigSep Finset.univ (fun k => dutyTok ER (sendCell c k) 0 0)
      ∗ levAts L lv ∗ cred (tallyAt (barCell c) () 31) ∗ atPos ER (barCell c) 0 ∅ 0)
    ∗ hbmPts c (Wt m ρ c) ∗ vmemPts c f₂ ∗ dutyTok ER (wCell c) 0 0 ∗ pt c cc0_stg0_0 (xstg m ρ c) ∗ pt c cc0_scratch0 f₀) ∗ Sig m ρ c 0)) ?_ ?_
  · unfold Start Toks Creds Places
    iintro ⟨⟨Hlev, #HRec, ⟨Htb, Htr, Hts, Htw⟩, ⟨Hcb, Hcr⟩, ⟨Hpb, Hpr, Hps, Hpw⟩, Hw⟩, ⟨H0, H1, H2, H3⟩, HO, Hx, Hs1, Hs2, Ho⟩
    ihave Hsig := (before_signals c f₁) $$ [Htb H1]
    · isplitl [Htb] <;> iassumption
    icases Hsig with ⟨Hgive, Hcol⟩
    isplitr [HO Hgive]
    · isplitl [Hs1 Hs2 Ho H3 Hcr Hpr Hps Hpw Hcol Htr Hts Hlev Hcb Hpb]
      · isplitl [Hs1 Hs2 Ho H3 Hcr Hpr Hps Hpw]
        · isplitl [Hs1]; · iexact Hs1
          isplitl [Hs2]; · iexact Hs2
          isplitl [Ho]; · iexact Ho
          isplitl [H3]; · iexact H3
          isplitl [Hcr]; · iexact Hcr
          isplitl [Hpr]; · iexact Hpr
          isplitl [Hps] <;> iassumption
        isplitl [Hcol]; · iexact Hcol
        isplitl [Htr]; · iexact Htr
        isplitl [Hts]; · iexact Hts
        isplitl [Hlev]; · iexact Hlev
        isplitl [Hcb] <;> iassumption
      isplitl [Hw]
      · unfold hbmPts; rw [View.set_whole]; iexact Hw
      isplitl [H2]
      · unfold vmemPts; rw [View.set_whole]; iexact H2
      isplitl [Htw]; · iexact Htw
      isplitl [Hx] <;> iassumption
    unfold Sig
    isplitr; · iexact HRec
    isplitl [HO]; · iexact HO
    iexact Hgive
  rw [cc0_body_eq_skeleton]
  unfold cc0_body_skel
  refine part1_run m ρ c fun v2 v30 => ?_
  refine part2_run m ρ c fun v60 => ?_
  refine part3_run m ρ c fun v90 => ?_
  refine via c (P' := iprop((((pt c cc0_stg1_0 (sx m ρ c) ∗ pt c cc0_stg2_0 (sw m ρ c) ∗ pt c cc0_stg3_0 fo ∗ pt c cc0_scratch3 f₃
        ∗ bigSep (Finset.univ.erase c) (fun j => cred (tallyAt (recvCell c j) () N)) ∗ bigSep Finset.univ (fun j => atPos ER (recvCell c j) 0 ∅ 0)
        ∗ bigSep Finset.univ (fun k => atPos ER (sendCell c k) 0 ∅ 0) ∗ atPos ER (wCell c) 0 ∅ 0 ∗ cred (tallyAt (wCell c) () NW) ∗ pt c cc0_stg0_0 (xstg m ρ c))
      ∗ pt c cc0_scratch0 (X m ρ c) ∗ colPts c c f₁ ∗ bigSep Finset.univ (fun i => dutyTok ER (recvCell i c) 0 0) ∗ bigSep Finset.univ (fun k => dutyTok ER (sendCell c k) 0 0))
      ∗ levAts L lv ∗ cred (tallyAt (barCell c) () 31) ∗ atPos ER (barCell c) 0 ∅ 0) ∗ Sig m ρ c 26)) ?_ ?_
  · iintro ⟨⟨⟨⟨Hs1, Hs2, Ho, H3, Hcr, Hpr, Hps, Hpw⟩, Hcol, Htr, Hts, Hrest⟩, Hcw, Hx, H0⟩, HS⟩
    isplitr [HS]
    · isplitr [Hrest]
      · isplitr [H0 Hcol Htr Hts]
        · isplitl [Hs1]; · iexact Hs1
          isplitl [Hs2]; · iexact Hs2
          isplitl [Ho]; · iexact Ho
          isplitl [H3]; · iexact H3
          isplitl [Hcr]; · iexact Hcr
          isplitl [Hpr]; · iexact Hpr
          isplitl [Hps]; · iexact Hps
          isplitl [Hpw]; · iexact Hpw
          isplitl [Hcw] <;> iassumption
        isplitl [H0]; · iexact H0
        isplitl [Hcol]; · iexact Hcol
        isplitl [Htr] <;> iassumption
      iexact Hrest
    iexact HS
  refine part4_run m ρ c ?_
  simp only [k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton, k0_part23_eq_skeleton, k0_part24_eq_skeleton,
    k0_part25_eq_skeleton, k0_part26_eq_skeleton]
  unfold k0_part5_skel k0_part6_skel k0_part7_skel k0_part8_skel k0_part9_skel k0_part10_skel k0_part11_skel k0_part12_skel k0_part13_skel k0_part14_skel k0_part15_skel
    k0_part16_skel k0_part17_skel k0_part18_skel k0_part19_skel k0_part20_skel k0_part21_skel k0_part22_skel k0_part23_skel k0_part24_skel k0_part25_skel k0_part26_skel
  simp only [Prog.lift, Prog.bind_op, Prog.bind_ret, Prog.pure_eq_ret, smemLoad, smemLoadElt]
  iterate 31 refine snd_step m ρ c (by decide) (by decide) (by decide +kernel) (off4_eq c (by decide) (by decide)) (off2_eq c) (by decide +kernel) (own_recv c) ?_
  refine via c (P' := iprop(((pt c cc0_stg0_0 (xstg m ρ c) ∗ semVal (barCell c) 0 ∗ pt c cc0_stg1_0 (sx m ρ c) ∗ pt c cc0_stg2_0 (sw m ρ c) ∗ pt c cc0_stg3_0 fo
        ∗ bigSep Finset.univ (fun k => atPos ER (sendCell c k) 0 ∅ 0))
      ∗ cred (tallyAt (wCell c) () NW) ∗ atPos ER (wCell c) 0 ∅ 0 ∗ bigSep (Finset.univ.erase c) (fun j => cred (tallyAt (recvCell c j) () N))
      ∗ cred (tallyAt (recvCell c c) () N) ∗ bigSep Finset.univ (fun j => atPos ER (recvCell c j) 0 ∅ 0) ∗ pt c cc0_scratch3 f₃) ∗ Snd m ρ c 32)) ?_ ?_
  · iintro ⟨⟨⟨Hs1, Hs2, Ho, H3, Hcr, Hpr, Hps, Hpw, Hcw, Hx⟩, Hb, Hcc⟩, HS⟩
    isplitr [HS]
    · isplitl [Hx Hb Hs1 Hs2 Ho Hps]
      · isplitl [Hx]; · iexact Hx
        isplitl [Hb]; · iexact Hb
        isplitl [Hs1]; · iexact Hs1
        isplitl [Hs2]; · iexact Hs2
        isplitl [Ho] <;> iassumption
      isplitl [Hcw]; · iexact Hcw
      isplitl [Hpw]; · iexact Hpw
      isplitl [Hcr]; · iexact Hcr
      isplitl [Hcc]; · iexact Hcc
      isplitl [Hpr] <;> iassumption
    iexact HS
  refine mid_step m ρ c (by decide) ?_
  iterate 16 refine rcv_step m ρ c (by decide) (by decide +kernel) ?_
  refine half_step m ρ c (by decide) lo_cols ?_
  iterate 16 refine rcv_step m ρ c (by decide) (by decide +kernel) ?_
  refine half_step m ρ c (by decide) hi_cols ?_
  refine via c (P' := iprop(((pt c cc0_stg0_0 (xstg m ρ c) ∗ semVal (barCell c) 0 ∗ semVal (wCell c) 0 ∗ wPay m ρ c ∗ pt c cc0_scratch3 (k0_pay2 (Wt m ρ c)))
        ∗ pt c cc0_stg1_0 (sx m ρ c) ∗ pt c cc0_stg2_0 (sw m ρ c) ∗ pt c cc0_stg3_0 fo
        ∗ bigSep (Finset.Ico 1 32) (fun j => cred (tallyAt (sendCell c (dv j)) () N)) ∗ bigSep Finset.univ (fun k => atPos ER (sendCell c k) 0 ∅ 0)) ∗ Rcv m ρ c 32)) ?_ ?_
  · iintro ⟨⟨⟨⟨Hx, Hb, Hs1, Hs2, Ho, Hps⟩, Hcs, Hsem, Hwp⟩, H3⟩, HS⟩
    isplitr [HS]
    · isplitl [Hx Hb Hsem Hwp H3]
      · isplitl [Hx]; · iexact Hx
        isplitl [Hb]; · iexact Hb
        isplitl [Hsem]; · iexact Hsem
        isplitl [Hwp] <;> iassumption
      isplitl [Hs1]; · iexact Hs1
      isplitl [Hs2]; · iexact Hs2
      isplitl [Ho]; · iexact Ho
      isplitl [Hcs] <;> iassumption
    iexact HS
  refine out_step m ρ c ?_
  iterate 31 refine sw_step m ρ c (by decide) (by decide) (by decide +kernel) ?_
  exact finish m ρ c h

end Run

end Cert.A2A

end
-- ==== Proof.Launch.lean ====
/-
The launch: the cells' invariants made and every device's share of them dealt, the credit the devices owe each other
counted, and from the run on each device the run of the 32.
-/
module

public import proofs.«01_k».proof.Proof.Run
public import Idealize.SL.BI.BigOpNat
public import Idealize.ShloMosaic.Lib.Pipeline.CollectiveSegs
public import Idealize.ShloMosaic.Lib.Pipeline.ValueKit.Geometry

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sx m ρ c
    | ⟨2, _⟩ => sw m ρ c
    | ⟨3, _⟩ => outAt m ρ c
  Φ t := match t with
    | ⟨0, _⟩ => iprop(Start m ρ c ∗ Scratch c)
    | ⟨_ + 1, _⟩ => End m ρ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem fetch_in (w : Fin cfg0.W) (hw : w.val < 3) (t : Fin cfg0.N) : (cfg0.win w).fetch t = true := by
  rw [fin_N0 t]
  match w, hw with
  | ⟨0, _⟩, _ => rfl
  | ⟨1, _⟩, _ => rfl
  | ⟨2, _⟩, _ => rfl

omit [FloatOps F] in
theorem owns_pt (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ pt c b g) := by
  unfold owns; simp only [Memref.view_whole, View.read_whole, View.set_whole]

/-- A staging buffer held at given contents, as the region's rule says it. -/
abbrev held (c : Dev nD) (b : Ref sig .tc) (f : b.ty.Contents (Elt F)) : sProp 𝕄 :=
  iprop(∃ g : Buf (Elt F) ((c : Thread nD τ).loc b), ⌜g = f⌝ ∗ pt c b g)

def bodyPre (c : Dev nD) : sProp 𝕄 :=
  iprop((Start m ρ c ∗ Scratch c) ∗ (dats m ρ 0 c).owesAt () t0_0.castSucc
    ∗ (∃ d, held c cc0_stg0_0 ((dats m ρ 0 c).before (0 : Fin 4) t0_0 d))
    ∗ (∃ d, held c cc0_stg1_0 ((dats m ρ 0 c).before (1 : Fin 4) t0_0 d))
    ∗ (∃ d, held c cc0_stg2_0 ((dats m ρ 0 c).before (2 : Fin 4) t0_0 d))
    ∗ (∃ d, held c cc0_stg3_0 ((dats m ρ 0 c).before (3 : Fin 4) t0_0 d)))
def bodyPost (c : Dev nD) : sProp 𝕄 :=
  iprop(End m ρ c ∗ (dats m ρ 0 c).owesAt () t0_0.succ
    ∗ held c cc0_stg0_0 (xstg m ρ c) ∗ held c cc0_stg1_0 (sx m ρ c) ∗ held c cc0_stg2_0 (sw m ρ c) ∗ held c cc0_stg3_0 (outAt m ρ c))

theorem body_holds (c : Dev nD) : bodyPre m ρ c ⊢ Wp (F := F) c (onBufs (cc0_body (F := F))) fun _ => bodyPost m ρ c := by
  unfold bodyPre Scratch
  iintro ⟨⟨HS, ⟨%f0, H0⟩, ⟨%f1, H1⟩, ⟨%f2, H2⟩, ⟨%f3, H3⟩⟩, Ho, ⟨%d0, %g0, %e0, Hx⟩, ⟨%d1, %g1, %e1, Hs1⟩, ⟨%d2, %g2, %e2, Hs2⟩, ⟨%d3, %g3, %e3, Hout⟩⟩
  have h0 : g0 = xstg m ρ c := by rw [e0]; unfold Dat.before; rw [if_pos (fetch_in 0 (by decide) t0_0)]; rfl
  have h1 : g1 = sx m ρ c := by rw [e1]; unfold Dat.before; rw [if_pos (fetch_in 1 (by decide) t0_0)]; rfl
  have h2 : g2 = sw m ρ c := by rw [e2]; unfold Dat.before; rw [if_pos (fetch_in 2 (by decide) t0_0)]; rfl
  subst h0; subst h1; subst h2
  unfold Dat.owesAt Pipeline.owesWithin
  icases Ho with ⟨%W, %hW, HO⟩
  rw [show (dats m ρ 0 c).owed t0_0.castSucc = O₀ c from rfl]
  iapply (body_run m ρ c (f₀ := f0) (f₁ := f1) (f₂ := f2) (f₃ := f3) (fo := g3) (Q := fun _ => bodyPost m ρ c) ?_)
  · unfold bodyPost Ow Dat.owesAt Pipeline.owesWithin
    rw [show (dats m ρ 0 c).owed t0_0.succ = 0 from rfl]
    iintro ⟨HE, ⟨%W', HO⟩, Hx, Hs1, Hs2, Hout⟩
    isplitl [HE]; · iexact HE
    isplitl [HO]
    · iexists W'
      isplitr; · ipureintro; exact fun _ _ => Or.inl trivial
      iexact HO
    isplitl [Hx]
    · iexists _; isplitr; · (ipureintro; rfl)
      iexact Hx
    isplitl [Hs1]
    · iexists _; isplitr; · (ipureintro; rfl)
      iexact Hs1
    isplitl [Hs2]
    · iexists _; isplitr; · (ipureintro; rfl)
      iexact Hs2
    iexists _; isplitr; · (ipureintro; rfl)
    iexact Hout
  isplitl [HS]; · iexact HS
  isplitl [H0 H1 H2 H3]
  · isplitl [H0]; · iexact H0
    isplitl [H1]; · iexact H1
    isplitl [H2] <;> iassumption
  isplitl [HO]
  · unfold Ow; iexists W; iexact HO
  isplitl [Hx]; · iexact Hx
  isplitl [Hs1]; · iexact Hs1
  isplitl [Hs2] <;> iassumption

theorem body_obligation (c : Dev nD) : BodyObligation (dats (F := F) m ρ 0 c) (defs₀ (F := F)) 𝒱₀ () Set.univ := fun t => by
  rw [fin_N0 t, bigSep_W0, bigSep_W0]
  simp only [owns_pt]
  exact body_holds m ρ c

/-! ## The cells, and the tokens of their duties -/

theorem ownSemFacts : Pipeline.OwnSemFacts cfg0.spec osem := by decide +kernel

omit [FloatOps F] in
theorem swap (P Q : sProp 𝕄) : iprop(P ∗ Q) = iprop(Q ∗ P) := equiv_iff.mp ⟨BI.sep_comm, BI.sep_comm⟩
omit [FloatOps F] in
theorem swap_left (P Q R : sProp 𝕄) : iprop(P ∗ Q ∗ R) = iprop(Q ∗ P ∗ R) :=
  equiv_iff.mp ⟨(Laws.sep_left_comm (PROP := sProp 𝕄) (P := P) (Q := Q) (R := R)).1, (Laws.sep_left_comm (PROP := sProp 𝕄) (P := P) (Q := Q) (R := R)).2⟩

omit [FloatOps F] in
/-- The kernel's own semaphores: sends, receives, the weight copy's. -/
theorem own_split (Φ : Fin 65 → sProp 𝕄) : bigSep Finset.univ Φ
    = iprop(bigSep Finset.univ (fun k : Fin 32 => Φ (Fin.castAdd 33 k)) ∗ bigSep Finset.univ (fun j : Fin 32 => Φ (Fin.natAdd 32 (Fin.castAdd 1 j))) ∗ Φ (Fin.natAdd 32 (Fin.natAdd 32 (0 : Fin 1)))) := by
  rw [bigSep_univ_equiv (finSumFinEquiv (m := 32) (n := 33)) Φ, bigSep_univ_sum,
    bigSep_univ_equiv (finSumFinEquiv (m := 32) (n := 1)) (fun k => Φ (finSumFinEquiv (Sum.inr k))), bigSep_univ_sum, bigSep_univ_of_subsingleton (0 : Fin 1)]
  rfl
omit [FloatOps F] in
theorem option_split {I : Type} [Fintype I] (Φ : Option I → sProp 𝕄) : bigSep Finset.univ Φ = iprop(Φ none ∗ bigSep Finset.univ fun i => Φ (some i)) := by
  rw [bigSep_univ_equiv (Equiv.optionEquivSumPUnit.{0} I).symm Φ, bigSep_univ_sum, bigSep_univ_of_subsingleton PUnit.unit]
  exact swap _ _

theorem sem_send (k : Fin 32) : osem (Fin.castAdd 33 k) = .dma (sendS k) := rfl
theorem sem_recv (j : Fin 32) : osem (Fin.natAdd 32 (Fin.castAdd 1 j)) = .dma (recvS j) :=
  congrArg SemLoc.dma (Fin.ext (show 4 + (32 + j.val) = 36 + j.val by omega))
theorem sem_w : osem (Fin.natAdd 32 (Fin.natAdd 32 (0 : Fin 1))) = .dma wS := rfl

omit [FloatOps F] in
/-- Something of every own cell of device `c`, kind by kind; -/
theorem own_cells (c : Dev nD) (Φ : GSem nD τ sig → sProp 𝕄) :
    (bigSep Finset.univ fun k : Fin 65 => Φ ((c : Thread nD τ), osem k))
      = iprop(bigSep Finset.univ (fun j => Φ (recvCell c j)) ∗ bigSep Finset.univ (fun k => Φ (sendCell c k)) ∗ Φ (wCell c)) := by
  rw [own_split]
  simp only [sem_send, sem_recv, sem_w]
  exact swap_left _ _ _
omit [FloatOps F] in
/-- and with them the barrier cell. -/
theorem all_cells (c : Dev nD) (Φ : GSem nD τ sig → sProp 𝕄) :
    (bigSep Finset.univ fun k : Option (Fin 65) => Φ (kcell (c, k)))
      = iprop(Φ (barCell c) ∗ bigSep Finset.univ (fun j => Φ (recvCell c j)) ∗ bigSep Finset.univ (fun k => Φ (sendCell c k)) ∗ Φ (wCell c)) := by
  rw [option_split, ← own_cells]; rfl
omit [FloatOps F] in
theorem over_cells (Φ : GSem nD τ sig → sProp 𝕄) :
    bigSep kcells Φ = bigSep Finset.univ fun c : Dev nD => bigSep Finset.univ fun k : Option (Fin 65) => Φ (kcell (c, k)) := by
  unfold kcells; rw [bigSep_map, bigSep_univ_prod]; rfl

/-- The duties of device `c`'s cells: its barrier's by the device that pays, every other cell's one. -/
def tokOf (p : Dev nD × (Dev nD ⊕ Fin 65)) : GSem nD τ sig × ℕ × Dev nD :=
  p.2.elim (fun d => (barCell p.1, 0, d)) fun k => (((p.1 : Thread nD τ), osem k), 0, 0)
theorem tokOf_injective : Function.Injective tokOf := fun a b h => by
  obtain ⟨c, k⟩ := a; obtain ⟨c', k'⟩ := b
  have h1 : c = c' := by
    have := congrArg (fun x : GSem nD τ sig × ℕ × Dev nD => x.1.1.1) h
    cases k <;> cases k' <;> exact this
  subst h1
  cases k with
  | inl d => cases k' with
    | inl d' => rw [show d = d' from congrArg (fun x : GSem nD τ sig × ℕ × Dev nD => x.2.2) h]
    | inr k' => exact absurd (congrArg (fun x : GSem nD τ sig × ℕ × Dev nD => x.1.2) h) (by intro h'; cases h')
  | inr k => cases k' with
    | inl d' => exact absurd (congrArg (fun x : GSem nD τ sig × ℕ × Dev nD => x.1.2) h) (by intro h'; cases h')
    | inr k' => rw [osem_injective (congrArg (fun x : GSem nD τ sig × ℕ × Dev nD => x.1.2) h)]
def ktoks : Finset (GSem nD τ sig × ℕ × Dev nD) := Finset.univ.map ⟨tokOf, tokOf_injective⟩

def u₀ : UU :=
  (initOf (Pipeline.cells cfgs cellOf_inj) (Pipeline.launchToks cfgs cellOf_inj), initOf kcells ktoks)

/-- The tokens of the duties at device `c`'s own cells. -/
def minted (c : Dev nD) : sProp 𝕄 :=
  iprop(bigSep Finset.univ (fun d => dutyTok ER (barCell c) 0 d) ∗ bigSep Finset.univ (fun j => dutyTok ER (recvCell c j) 0 0)
    ∗ bigSep Finset.univ (fun k => dutyTok ER (sendCell c k) 0 0) ∗ dutyTok ER (wCell c) 0 0)

omit [FloatOps F] in
theorem over_toks : bigSep ktoks (fun x => (dutyTok ER x.1 x.2.1 x.2.2 : sProp 𝕄)) = bigSep Finset.univ fun c => minted c := by
  unfold ktoks; rw [bigSep_map, bigSep_univ_prod]
  refine bigSep_congr fun c _ => ?_
  rw [bigSep_univ_sum]
  unfold minted
  rw [← own_cells c fun g => (dutyTok ER g 0 0 : sProp 𝕄)]
  rfl

omit [FloatOps F] in
/-- Each token goes to the device that pays the duty. -/
theorem dealt : (bigSep Finset.univ fun c => (minted c : sProp 𝕄)) = bigSep Finset.univ fun c => Toks c := by
  unfold minted Toks
  rw [bigSep_sep', bigSep_sep', bigSep_univ_comm, bigSep_univ_comm (fun c j => (dutyTok ER (recvCell c j) 0 0 : sProp 𝕄)), ← bigSep_sep', ← bigSep_sep']

/-- What the launch deals device `c` before the invariants are made, and after. -/
def Deal (c : Dev nD) : sProp 𝕄 :=
  iprop((bigSep Finset.univ fun k : Option (Fin 65) => roundState ER (Rd m ρ) (kcell (c, k)) 0)
    ∗ (bigSep Finset.univ fun k : Option (Fin 65) => reached ER (kcell (c, k)) 0) ∗ Places c ∗ minted c)
def Dealt (c : Dev nD) : sProp 𝕄 := iprop(Rec m ρ ∗ Places c ∗ Toks c)

omit [FloatOps F] in
theorem places_eq (c : Dev nD) : (bigSep Finset.univ fun k : Option (Fin 65) => (atPos ER (kcell (c, k)) 0 ∅ 0 : sProp 𝕄)) = Places c :=
  all_cells c fun g => (atPos ER g 0 ∅ 0 : sProp 𝕄)

theorem fund : BI.own (ER (initOf kcells ktoks)) ⊢ (|==> bigSep Finset.univ (Deal m ρ) : sProp 𝕄) := by
  iintro HX
  imod (Rounds.fund ER (Rd m ρ) kcells ktoks) $$ HX with ⟨Hst, Hr, Hat, Htok⟩
  imodintro
  ihave Hst' := (Entails.of_eq (over_cells fun g => roundState ER (Rd m ρ) g 0)) $$ Hst
  ihave Hat' := (Entails.of_eq ((over_cells fun g => atPos ER g 0 ∅ 0).trans (bigSep_congr fun c _ => places_eq c))) $$ Hat
  ihave Hr' := (Entails.of_eq (over_cells fun g => reached ER g 0)) $$ Hr
  ihave Htok' := (Entails.of_eq over_toks) $$ Htok
  unfold Deal; simp only [bigSep_sep']
  isplitl [Hst']; · iexact Hst'
  isplitl [Hr']; · iexact Hr'
  isplitl [Hat'] <;> iassumption

omit [FloatOps F] in
theorem ownSems0_eq (c : Dev nD) : (Pipeline.ownSems0 (Ix := Unit) (Name := ℕ) (U := UU) (Lvl := ℕ) (Val := Elt F) (τ := τ) osem c : sProp 𝕄)
    = iprop(bigSep Finset.univ (fun j => semVal (recvCell c j) 0) ∗ bigSep Finset.univ (fun k => semVal (sendCell c k) 0) ∗ semVal (wCell c) 0) :=
  own_cells c fun g => semVal g 0
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- Device `c`'s cells with their invariants made. -/
def Made (c : Dev nD) : sProp 𝕄 :=
  bigSep Finset.univ fun k : Option (Fin 65) => iprop((∃ κ : ℕ, cellInv ER (Rd m ρ) κ (kcell (c, k))) ∗ reached ER (kcell (c, k)) 0)

theorem make (c : Dev nD) :
    iprop(Pipeline.ownSems0 (Ix := Unit) (Name := ℕ) (U := UU) (Lvl := ℕ) (Val := Elt F) (τ := τ) osem c ∗ unscopedSems0 c ∗ Deal m ρ c)
      ⊢ |={Set.univ}=> iprop(Made m ρ c ∗ Places c ∗ minted c) := by
  unfold Deal Made
  rw [ownSems0_eq, unscopedSems0_eq, bigSep_sep']
  iintro ⟨Hos, Hus, Hst, Hr, Hat, Htok⟩
  imod (show iprop((bigSep Finset.univ fun k : Option (Fin 65) => semVal (kcell (c, k)) 0) ∗ bigSep Finset.univ fun k : Option (Fin 65) => roundState ER (Rd m ρ) (kcell (c, k)) 0)
      ⊢ (|={Set.univ}=> bigSep Finset.univ fun k : Option (Fin 65) => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hos Hus Hst] with Hinv
  · isplitr [Hst]
    · rw [all_cells c fun g => (semVal g 0 : sProp 𝕄)]
      isplitl [Hus] <;> iassumption
    iexact Hst
  imodintro
  isplitl [Hinv Hr]
  · isplitl [Hinv] <;> iassumption
  isplitl [Hat] <;> iassumption

omit [FloatOps F] in
/-- A persistent fact goes to every summand. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem shared : (bigSep Finset.univ fun c => iprop(Made m ρ c ∗ Places c ∗ minted c) : sProp 𝕄) ⊢ bigSep Finset.univ (Dealt m ρ) := by
  rw [bigSep_sep', bigSep_sep', dealt, ← bigSep_sep']
  unfold Made
  rw [← over_cells fun g => iprop((∃ κ : ℕ, cellInv ER (Rd m ρ) κ g) ∗ reached ER g 0)]
  exact to_each (R := Rec m ρ) fun c _ => BI.Entails.refl _

theorem glob : (bigSep Finset.univ fun c => iprop(Pipeline.ownSems0 (Ix := Unit) (Name := ℕ) (U := UU) (Lvl := ℕ) (Val := Elt F) (τ := τ) osem c ∗ unscopedSems0 c ∗ Deal m ρ c) : sProp 𝕄)
    ⊢ |={Set.univ}=> bigSep Finset.univ (Dealt m ρ) :=
  ((bigSep_mono fun c _ => make m ρ c).trans (bigSep_fupd _ _)).trans (BI.fupd_mono (shared m ρ))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b j k : Dev nD} : Iff (recvCell a j = recvCell b k) (a = b ∧ j = k) :=
  ⟨fun h => ⟨congrArg (fun g : GSem nD τ sig => g.1.1) h, by
      have h' : 36 + j.val = 36 + k.val := congrArg Fin.val (SemLoc.dma.inj (congrArg Prod.snd h))
      exact Fin.ext (by omega)⟩, fun h => by rw [h.1, h.2]⟩

theorem tallyAt_at_ne {g g' : GSem nD τ sig} {n : ℕ} (h : g ≠ g') : (tallyAt g' () n : CellTallies nD τ sig Unit) g () = 0 := by
  rw [tallyAt_apply, if_neg fun e => h e.1]

/-- Device `d` owes a unit to every barrier but its own, -/
theorem owed_bar (d c : Dev nD) : O₀ d (barCell c) () = if d = c then 0 else 1 := by
  unfold O₀ Osend Osig
  rw [Pi.add_apply, Finsupp.add_apply, Finset.sum_apply, Finsupp.finset_sum_apply, Finset.sum_apply, Finsupp.finset_sum_apply,
    Finset.sum_eq_zero (s := Finset.Ico 1 32) fun i _ => tallyAt_at_ne (g := barCell c) (fun h => by cases congrArg Prod.snd h), Nat.zero_add]
  have hc : c.val < 32 := c.isLt
  rw [Finset.sum_eq_single c.val]
  · rw [dv_self]
    by_cases h : c = d
    · rw [if_pos h, if_pos h.symm]; rfl
    · rw [if_neg h, if_neg fun e => h e.symm, tallyAt_apply, if_pos ⟨rfl, rfl⟩]
  · intro i hi hne
    have hi' := (Finset.mem_Ico.mp hi).2
    split
    · rfl
    · exact tallyAt_at_ne fun h => hne (by rw [bar_eq_iff.mp h, dv_val, Nat.mod_eq_of_lt hi'])
  · intro h; exact absurd (Finset.mem_Ico.mpr ⟨Nat.zero_le _, hc⟩) h
/-- and the credit of its block to every other device. -/
theorem owed_recv (d c j : Dev nD) (hj : j ≠ c) : O₀ d (recvCell c j) () = if d = j then N else 0 := by
  unfold O₀ Osend Osig
  rw [Pi.add_apply, Finsupp.add_apply, Finset.sum_apply, Finsupp.finset_sum_apply, Finset.sum_apply, Finsupp.finset_sum_apply]
  have h0 : (∑ i ∈ Finset.Ico 0 32, (if dv i = d then (0 : CellTallies nD τ sig Unit) else tallyAt (barCell (dv i)) () 1) (recvCell c j) ()) = 0 :=
    Finset.sum_eq_zero fun i _ => by
      split
      · rfl
      · exact tallyAt_at_ne fun h => by cases congrArg Prod.snd h
  rw [h0, Nat.add_zero]
  have hc : c.val < 32 := c.isLt
  have hj' : j.val < 32 := j.isLt
  have hv : j.val ≠ c.val := fun e => hj (Fin.ext e)
  by_cases h : d = j
  · subst h
    rw [if_pos rfl, Finset.sum_eq_single ((c.val + 32 - d.val) % 32)]
    · rw [tallyAt_apply, if_pos ⟨recv_eq_iff.mpr ⟨Fin.ext (by rw [dv_val]; omega), rfl⟩, rfl⟩]
    · intro i hi hne
      have hi' := Finset.mem_Ico.mp hi
      refine tallyAt_at_ne fun h => hne ?_
      have e : c.val = (d.val + i) % 32 := congrArg Fin.val (recv_eq_iff.mp h).1
      omega
    · intro h; exact absurd (Finset.mem_Ico.mpr ⟨by omega, Nat.mod_lt _ (by decide)⟩) h
  · rw [if_neg h, Finset.sum_eq_zero fun i _ => tallyAt_at_ne fun e => h (recv_eq_iff.mp e).2.symm]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite, Finset.sum_const_zero, Nat.zero_add,
    Finset.sum_const, Finset.filter_ne', Finset.card_erase_of_mem (Finset.mem_univ _), Finset.card_univ, Fintype.card_fin]
  decide
theorem launch_recv (c j : Dev nD) (hj : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj, Finset.sum_ite_eq' Finset.univ j fun _ => N,
    if_pos (Finset.mem_univ _)]

/-- The receive semaphores as an embedding. -/
def recvE : Dev nD ↪ SemLoc sig := ⟨fun j => .dma (recvS j), fun a b h => Fin.ext (by
  have h' : 36 + a.val = 36 + b.val := congrArg Fin.val (SemLoc.dma.inj h)
  omega)⟩

omit [FloatOps F] in
theorem creds (c : Dev nD) : (Pipeline.launchCred O₀ c : sProp 𝕄) ⊢ Creds c := by
  unfold Pipeline.launchCred Creds
  rw [bigSep_univ_at _ (SemLoc.reg barS), launch_bar]
  refine sep_mono_right ?_
  refine (bigSep_subset (t := (Finset.univ.erase c).map recvE) fun x hx => ?_).trans ?_
  · obtain ⟨j, -, rfl⟩ := Finset.mem_map.mp hx
    exact Finset.mem_erase.mpr ⟨(fun h => by cases h), Finset.mem_univ _⟩
  · rw [bigSep_map]
    exact bigSep_mono fun j hj => Entails.of_eq (congrArg cred (launch_recv c j (Finset.ne_of_mem_erase hj)))

/-! ## The run of the 32 devices -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Dealt m ρ c)
      ⊢ |={Set.univ}=> iprop(Start m ρ c ∗ emp) := by
  rw [Pipeline.unscopedRestP_none, unscopedRest0_eq]
  unfold Dealt Start
  iintro ⟨Hw, Hlev, Hcr, -, HR, HP, HT⟩
  ihave Hc := (creds (F := F) c) $$ Hcr
  imodintro
  isplitl
  · isplitl [Hlev]; · iexact Hlev
    isplitl [HR]; · iexact HR
    isplitl [HT]; · iexact HT
    isplitl [Hc]; · iexact Hc
    isplitl [HP]; · iexact HP
    iexact Hw
  · iempintro

theorem enter (c : Dev nD) :
    iprop(Start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(Start m ρ c ∗ Scratch c) from rfl, scopedRest0_eq]
  unfold Scratch
  iintro ⟨Hs, -, Hr⟩
  isplitl [Hs]; · iexact Hs
  iexact Hr

theorem leave (c : Dev nD) :
    (dats m ρ 0 c).Φ (Fin.last cfg0.N) ⊢ iprop((unscopedSems0 c ∗ pt c main_arg1 (Wt m ρ c)) ∗ Pipeline.ownSems0 osem c ∗ Pipeline.scopedRest cfg0.spec c) := by
  rw [show (dats m ρ 0 c).Φ (Fin.last cfg0.N) = End m ρ c from rfl, scopedRest0_eq, ownSems0_eq, unscopedSems0_eq]
  unfold End Closed Scratch
  iintro ⟨⟨HB, HR, HS, HW⟩, Hw, Hr⟩
  isplitl [HB Hw]
  · isplitl [HB] <;> iassumption
  isplitl [HR HS HW]
  · isplitl [HR]; · iexact HR
    isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- At the end the barrier semaphore of device `c` is at zero and its weight array as it was. -/
theorem read_end (c : Dev nD) (s' : Phys nD τ sig (Elt F)) :
    iprop((unscopedSems0 c ∗ pt c main_arg1 (Wt m ρ c)) ∗ emp ∗ SI s')
      ⊢ |={Set.univ}=> (iprop(⌜(∀ sm : SemLoc sig, sm.isScoped .tc = false → s'.mem.sem ((c.tc : Thread nD τ), sm) = 0)
          ∧ s'.mem.mem ((c.tc : Thread nD τ).loc main_arg1) = m ((c.tc : Thread nD τ).loc main_arg1)⌝ ∗ SI s') : sProp 𝕄) := by
  iintro ⟨⟨Hu, Hw⟩, -, HSI⟩
  icombine HSI Hw gives %hw
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hw i (Finset.mem_univ i)⟩
  iexact HSI

set_option maxRecDepth 8000 in
/-- From any memory with every counter at zero the 32 devices run to the end, fairly scheduled in any way: every
    window's array at its final contents, the weight array unchanged, every semaphore counter at zero. -/
theorem run_main : θ_run defs (onTc (τ := τ) (main (F := F))) (s₀ m ρ) (fun r =>
    (∀ c : Dev nD, (∀ w : Fin cfg0.W, r.2.mem ((cfg0.win w).arr.view.loc (c : Thread nD τ)) = (dats m ρ 0 c).arrAt w cfg0.N)
      ∧ r.2.mem ((c.tc : Thread nD τ).loc main_arg1) = m ((c.tc : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Deal m ρ) (G' := Dealt m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := Start m ρ) (Y := fun c => iprop(unscopedSems0 c ∗ pt c main_arg1 (Wt m ρ c))) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c.tc : Thread nD τ).loc main_arg1) = m ((c.tc : Thread nD τ).loc main_arg1))
    (hY := read_end m ρ)
    (hQ := fun _ h hs => ⟨fun c => ⟨fun w => (h c).1 w, (h c).2.2.2⟩, sem_eq_zero hs fun c => (h c).2.2.1⟩)

end Cert.A2A

end
-- ==== Proof.Frames.lean ====
/-
What a whole run leaves alone: on every device the four arguments hold at the end what they held at
the start, and every semaphore is back at zero. It is proved once, from the run of the idealized
program at any float model; the program before idealizing is the same text in another namespace, so
the same statement holds of it.
-/
module

public import proofs.«01_k».proof.Defs
public import proofs.«01_k».proof.Proof.Launch
public import proofs.«01_k».proof.Proof.Gen.Kernel

@[expose] public section

noncomputable section

namespace Cert.A2A

open Idealize.ShloMosaic Idealize.SL.Sem Cert.KernelIdeal Cert.KernelIdeal.Gen
open Idealize.ShloMosaic.TcCoe

variable {F : FTy → Type} [FloatOps F]

/-- The four arguments of every device are unchanged, and every semaphore is zero. -/
theorem kept (m : (ℓ : Loc nD τ sig) → Buf (Elt F) ℓ) (ρ : Dev nD → PrngReg) :
    θ_run (Cert.KernelIdeal.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run Cert.KernelIdeal.defs _ _).mono (fun _ h => ⟨fun c =>
    ⟨((h.1 c).1 (0 : Fin 4)).trans ((dats m ρ 0 c).arrAt_in (0 : Fin 4) rfl _), (h.1 c).2,
      ((h.1 c).1 (1 : Fin 4)).trans ((dats m ρ 0 c).arrAt_in (1 : Fin 4) rfl _),
      ((h.1 c).1 (2 : Fin 4)).trans ((dats m ρ 0 c).arrAt_in (2 : Fin 4) rfl _)⟩, h.2⟩) (run_main m ρ)

/-- The two programs' kernel tables are equal: their one body is the same text. -/
theorem defs₀_eq : Cert.Kernel.defs₀ (F := F) = Cert.KernelIdeal.defs₀ (F := F) := by
  unfold Cert.Kernel.defs₀ Cert.KernelIdeal.defs₀
  congr 1
  funext l a
  match l, a with
  | 0, (t, s) =>
    show Cert.Kernel.cc0_body _ _ _ _ _ _ _ _ _ _ _ _ _ _ _ _ _ _ _ _ _
      = Cert.KernelIdeal.cc0_body _ _ _ _ _ _ _ _ _ _ _ _ _ _ _ _ _ _ _ _ _
    rfl

/-- And so are their body tables with the pipeline's regions. -/
theorem defs_eq : Cert.Kernel.defs (F := F) = Cert.KernelIdeal.defs (F := F) :=
  congrArg (Pipeline.defs Cert.KernelIdeal.pcfgs) (defs₀_eq (F := F))

/-- The frame of the idealized program. -/
theorem frame_ideal : Cert.quiescent_KernelIdeal (hKernelIdeal := Cert.KernelIdeal.Gen.facts) :=
  fun m ρ _ => kept m ρ

/-- The frame of the program before idealizing, at the bits. -/
theorem frame_bits : Cert.quiescent_Kernel (hKernel := Cert.Kernel.Gen.facts) := by
  intro m ρ _
  have h := kept (F := Bits) m ρ
  rw [← defs_eq] at h
  exact h

end Cert.A2A

end
-- ==== Proof.Value.lean ====
/-
The values. At the exact instance the device's result, read at a row and a column, is the scaled
product of the whole arrays there: the gathered row block is a row block of `x`, the two half
products are the two halves of one sum of 4096 terms, and the rounding of the weights is the
identity. The reference's result is the same sum, so each device ends holding its row block of it.
-/
module

public import proofs.«01_k».proof.Defs
public import proofs.«01_k».proof.Proof.Frames
public import proofs.«01_k».proof.Proof.Gen.ReferenceIdeal.Value
public import Idealize.ShloMosaic.Lib.Pointwise
public import Idealize.ShloMosaic.Lib.Pipeline.ValueKit
public import Idealize.ShloMosaic.Lib.Pipeline.ReadBack

@[expose] public section

noncomputable section

namespace Cert.A2A

open Idealize.ShloMosaic Idealize.SL.Sem
open Idealize.ShloMosaic.TcCoe
open Idealize.ShloMosaic.Pipeline (Dat)

section
open Cert.KernelIdeal Cert.KernelIdeal.Gen
variable {F : FTy → Type} [FloatOps F] (m : (ℓ : Loc nD τ sig) → Buf (Elt F) ℓ) (ρ : Dev nD → PrngReg) (c : Dev nD)

/-- The one point of the grid. -/
def tK : Fin cfg0.N := ⟨0, Nat.one_pos⟩

/-- Its write-back is of the whole result. -/
theorem whole3 : (cfg0.win (3 : Fin 4)).WholeAt tK :=
  (by decide +kernel : win0_3.WholeAt (⟨0, Nat.one_pos⟩ : Fin grid0.N))

/-- The result array after the run. -/
theorem out_eq : (dats m ρ 0 c).arrAt (3 : Fin 4) cfg0.N = outAt m ρ c := by
  refine (dats m ρ 0 c).arrAt_eq_of_after_last (3 : Fin 4) tK whole3 _ fun j => ?_
  blk_simp
  rfl

/-- A load of a rectangle of a buffer, at an index. -/
theorem access_whole_read (b : Ref sig .tc) (off size : Fin b.ty.shape.rank → Nat) (h : ∀ a, off a + size a ≤ b.ty.shape.size a)
    (g : b.ty.shape.Idx → Elt F b.ty.elt) (x : (⟨b.ty.shape.rank, size⟩ : Shape).Idx) (y : b.ty.shape.Idx) (hy : ∀ a, (y a).val = off a + (x a).val) :
    View.read (Elt F) ((Memref.whole b).access (Rect.unit off size h)) g x = g y :=
  congrArg g (funext fun a => Fin.ext (by rw [hy]; show off a + 1 * (x a).val = _; rw [Nat.one_mul]))

/-! The four loads of the two products. -/

theorem lo_read (g : S128x4096.Idx → Elt F .fp8e4m3) (r : Fin 128) (k : Fin 2048) :
    View.read (Elt F) (gM.access rGlo) g (ix2 r k) = g (ix2 r ⟨k.val, by omega⟩) :=
  access_whole_read cc0_scratch1 _ _ _ g _ _ fun a => by fin_cases a <;> exact (Nat.zero_add _).symm
theorem hi_read (g : S128x4096.Idx → Elt F .fp8e4m3) (r : Fin 128) (k : Fin 2048) :
    View.read (Elt F) (gM.access rGhi) g (ix2 r k) = g (ix2 r ⟨2048 + k.val, by omega⟩) :=
  access_whole_read cc0_scratch1 _ _ _ g _ _ fun a => by
    fin_cases a
    · exact (Nat.zero_add _).symm
    · rfl
theorem lo_readW (g : S4096x2048.Idx → Elt F .fp8e4m3) (k : Fin 2048) (n : Fin 2048) :
    View.read (Elt F) (w8M.access rWlo) g (ix2 k n) = g (ix2 ⟨k.val, by omega⟩ n) :=
  access_whole_read cc0_scratch3 _ _ _ g _ _ fun a => by fin_cases a <;> exact (Nat.zero_add _).symm
theorem hi_readW (g : S4096x2048.Idx → Elt F .fp8e4m3) (k : Fin 2048) (n : Fin 2048) :
    View.read (Elt F) (w8M.access rWhi) g (ix2 k n) = g (ix2 ⟨2048 + k.val, by omega⟩ n) :=
  access_whole_read cc0_scratch3 _ _ _ g _ _ fun a => by
    fin_cases a
    · rfl
    · exact (Nat.zero_add _).symm

/-! What the pipeline stages is the argument, whole. -/

theorem xstg_eq : xstg m ρ c = m ((c : Thread nD τ).loc main_arg0) :=
  funext fun j => congrArg (m ((c : Thread nD τ).loc main_arg0)) (funext fun a => Fin.ext
    (win0_0.rect_emb_val_of_index_zero (0 : Fin 1) a (by fin_cases a <;> rfl) j))
theorem sx_eq : first (sx m ρ c) = m ((c : Thread nD τ).loc main_arg2) (ix1 0) :=
  congrArg (m ((c : Thread nD τ).loc main_arg2)) (funext fun a => by fin_cases a; exact Subsingleton.elim (α := Fin 1) _ _)
theorem sw_eq : first (sw m ρ c) = m ((c : Thread nD τ).loc main_arg3) (ix1 0) :=
  congrArg (m ((c : Thread nD τ).loc main_arg3)) (funext fun a => by fin_cases a; exact Subsingleton.elim (α := Fin 1) _ _)

/-- The gathered rows at an index: the column picks the device, and the column of its block. -/
theorem gath_ix (r : Fin 128) (k : Fin 4096) : gath m ρ c (ix2 r k)
    = m (((dv (k.val / 128) : Dev nD) : Thread nD τ).loc main_arg0) (ix2 ⟨c.val * 128 + r.val, by have : c.val < 32 := c.isLt; omega⟩ ⟨k.val % 128, by omega⟩) := by
  unfold gath X
  rw [xstg_eq]
  pointwise [k0_pay1]
  refine congrArg (m (((dv (k.val / 128) : Dev nD) : Thread nD τ).loc main_arg0)) (funext fun a => Fin.ext ?_)
  fin_cases a
  · show 128 * c.val + 1 * r.val = c.val * 128 + r.val
    omega
  · show 0 + 1 * (k.val % 128) = k.val % 128
    rw [Nat.zero_add, Nat.one_mul]
end

section
open Cert.KernelIdeal Cert.KernelIdeal.Gen
variable (m : (ℓ : Loc nD τ sig) → Buf (Elt Ideal) ℓ) (ρ : Dev nD → PrngReg) (c : Dev nD)

/-- The scaled matrix product, at a row and a column. -/
def gemm (x : (⟨2, ![4096, 4096]⟩ : Shape).Idx → EReal) (w : (⟨2, ![4096, 2048]⟩ : Shape).Idx → EReal) (s t : (⟨1, ![1]⟩ : Shape).Idx → EReal)
    (i : Fin 4096) (n : Fin 2048) : EReal :=
  (∑ k : Fin 4096, x (ix2 i k) * w (ix2 k n)) * (s (ix1 0) * t (ix1 0))

/-- The kernel's result at an index, where the devices hold the column blocks of `x`. -/
theorem outAt_ix (x : (⟨2, ![4096, 4096]⟩ : Shape).Idx → EReal)
    (hx : ∀ d : Dev nD, m ((d : Thread nD τ).loc main_arg0) = Layout.block ⟨2, ![4096, 128]⟩ ⟨2, ![4096, 4096]⟩ 1 32 d x)
    (r : Fin 128) (n : Fin 2048) : outAt m ρ c (ix2 r n)
      = gemm x (m ((c : Thread nD τ).loc main_arg1)) (m ((c : Thread nD τ).loc main_arg2)) (m ((c : Thread nD τ).loc main_arg3))
        ⟨c.val * 128 + r.val, by have : c.val < 32 := c.isLt; omega⟩ n := by
  have hg : ∀ k : Fin 4096, gath m ρ c (ix2 r k) = x (ix2 ⟨c.val * 128 + r.val, by have : c.val < 32 := c.isLt; omega⟩ k) := by
    intro k
    rw [gath_ix, hx, Layout.block_apply]
    refine congrArg x (funext fun a => Fin.ext ?_)
    fin_cases a
    · rfl
    · show (k.val / 128) % 32 * 128 + k.val % 128 = k.val
      omega
  unfold outAt accHi accLo
  pointwise [k0_pay5, k0_pay4, k0_pay3, k0_pay2]
  rw [sx_eq, sw_eq, gemm, Fin.sum_univ_two_halves 2048 2048 rfl]
  refine congrArg (fun z : EReal => z * _) (congrArg₂ (fun y z : EReal => y + z) (Finset.sum_congr rfl fun k _ => ?_) (Finset.sum_congr rfl fun k _ => ?_))
  · rw [lo_read, hg, lo_readW]; rfl
  · rw [hi_read, hg, hi_readW]; rfl
end

/-- The one index of a one-element array. -/
theorem first_ix (h : 0 < (⟨1, ![1]⟩ : Shape).numel) : Shape.Idx.first h = (ix1 0 : (⟨1, ![1]⟩ : Shape).Idx) :=
  funext fun a => by fin_cases a; exact Subsingleton.elim (α := Fin 1) _ _

section
open Cert.ReferenceIdeal Cert.ReferenceIdeal.Gen
variable (m : (ℓ : Loc nD τ sig) → Buf (Elt Ideal) ℓ) (ρ : Dev nD → PrngReg) (c : Dev nD)

/-- The one point of the reference's grid. -/
def tR : Fin cfg0.N := ⟨0, Nat.one_pos⟩
/-- Its write-back is of the whole result. -/
theorem whole4 : (cfg0.win (4 : Fin 5)).WholeAt tR :=
  (by decide +kernel : win0_4.WholeAt (⟨0, Nat.one_pos⟩ : Fin grid0.N))

/-! The reference stages each argument whole. -/

theorem iblk0 : iblk m c 0 tR = m ((c : Thread nD τ).loc main_arg0) := by
  unfold iblk
  rw [show V m c (Pipeline.arrRef spec0 0) = _ from V_main_arg0 m c]
  exact funext fun j => congrArg (m ((c : Thread nD τ).loc main_arg0)) (funext fun a => Fin.ext
    (win0_0.rect_emb_val_of_index_zero (0 : Fin 1) a (by fin_cases a <;> rfl) j))
theorem iblk1 : iblk m c 1 tR = m ((c : Thread nD τ).loc main_arg1) := by
  unfold iblk
  rw [show V m c (Pipeline.arrRef spec0 1) = _ from V_main_arg1 m c]
  exact funext fun j => congrArg (m ((c : Thread nD τ).loc main_arg1)) (funext fun a => Fin.ext
    (win0_1.rect_emb_val_of_index_zero (0 : Fin 1) a (by fin_cases a <;> rfl) j))
theorem iblk2 : iblk m c 2 tR = m ((c : Thread nD τ).loc main_arg2) := by
  unfold iblk
  rw [show V m c (Pipeline.arrRef spec0 2) = _ from V_main_arg2 m c]
  exact funext fun j => congrArg (m ((c : Thread nD τ).loc main_arg2)) (funext fun a => Fin.ext
    (win0_2.rect_emb_val_of_index_zero (0 : Fin 1) a (by fin_cases a <;> rfl) j))
theorem iblk3 : iblk m c 3 tR = m ((c : Thread nD τ).loc main_arg3) := by
  unfold iblk
  rw [show V m c (Pipeline.arrRef spec0 3) = _ from V_main_arg3 m c]
  exact funext fun j => congrArg (m ((c : Thread nD τ).loc main_arg3)) (funext fun a => Fin.ext
    (win0_3.rect_emb_val_of_index_zero (0 : Fin 1) a (by fin_cases a <;> rfl) j))

/-- The reference's result array after its run. -/
theorem ref_out : (Cert.ReferenceIdeal.Gen.dats m 0 c).arrAt (4 : Fin 5) cfg0.N = Cert.ReferenceIdeal.Gen.k0_pay1 (F := Ideal) (m ((c : Thread nD τ).loc main_arg0)) (m ((c : Thread nD τ).loc main_arg1)) (m ((c : Thread nD τ).loc main_arg2) (ix1 0)) (m ((c : Thread nD τ).loc main_arg3) (ix1 0)) := by
    refine (Cert.ReferenceIdeal.Gen.dats m 0 c).arrAt_eq_of_after_last (4 : Fin 5) tR whole4 _ fun j => ?_
    blk_simp
    rw [after0_4]
    unfold outsAt0
    frame_out
    rw [iblk0, iblk1, iblk2, iblk3]
    simp only [read_unread_whole]
    rw [first_ix]

/-- And at an index. -/
theorem ref_ix (i : Fin 4096) (n : Fin 2048) : (Cert.ReferenceIdeal.Gen.dats m 0 c).arrAt (4 : Fin 5) cfg0.N (ix2 i n)
      = gemm (m ((c : Thread nD τ).loc main_arg0)) (m ((c : Thread nD τ).loc main_arg1)) (m ((c : Thread nD τ).loc main_arg2))
        (m ((c : Thread nD τ).loc main_arg3)) i n := by
  rw [ref_out]
  unfold gemm
  pointwise [k0_pay1]
end

/-- The two programs compute one array: each device of the kernel ends holding its row block of the
reference's result. -/
theorem algebraic : Cert.algebraic_KernelIdeal_ReferenceIdeal (hKernelIdeal := Cert.KernelIdeal.Gen.facts) (hReferenceIdeal := Cert.ReferenceIdeal.Gen.facts) := by
  intro m g m' g' _ hm
  refine ⟨(Cert.ReferenceIdeal.Gen.dats m' 0 0).arrAt (4 : Fin 5) Cert.ReferenceIdeal.cfg0.N, ?_, ?_⟩
  · refine (θ_run Cert.KernelIdeal.defs _ _).mono (fun r h c => ?_) (run_main m g)
    refine ⟨?_, ((h.1 c).1 (0 : Fin 4)).trans ((dats m g 0 c).arrAt_in (0 : Fin 4) rfl _), (h.1 c).2,
      ((h.1 c).1 (1 : Fin 4)).trans ((dats m g 0 c).arrAt_in (1 : Fin 4) rfl _),
      ((h.1 c).1 (2 : Fin 4)).trans ((dats m g 0 c).arrAt_in (2 : Fin 4) rfl _)⟩
    refine ((h.1 c).1 (3 : Fin 4)).trans ((out_eq m g c).trans (funext fun j => ?_))
    obtain ⟨a, n, rfl⟩ : ∃ (a : Fin 128) (n : Fin 2048), j = ix2 a n := ⟨j 0, j 1, eq_ix2 j⟩
    rw [Layout.block_apply, outAt_ix m g c _ (fun d => (hm d).1) a n, (hm c).2.1, (hm c).2.2.1, (hm c).2.2.2]
    refine (ref_ix m' 0 _ n).symm.trans (congrArg _ (funext fun b => Fin.ext ?_))
    fin_cases b <;> rfl
  · exact (θ_run Cert.ReferenceIdeal.defs _ _).mono (fun r h => h 0) (Cert.ReferenceIdeal.Value.run_blocks m' g')
end Cert.A2A
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.A2A.frame_bits, Cert.A2A.frame_ideal, fun m ρ _ => Cert.ReferenceIdeal.Gen.frame m ρ, trivial, Cert.A2A.algebraic⟩

end Cert.Proof

end
